-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 2048]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![2048, 2048]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x256 : Shape := ⟨2, ![2048, 256]⟩
abbrev S256x2048 : Shape := ⟨2, ![256, 2048]⟩
abbrev S2048x2048 : Shape := ⟨2, ![2048, 2048]⟩
abbrev S1024x384 : Shape := ⟨2, ![1024, 384]⟩
abbrev S512x384 : Shape := ⟨2, ![512, 384]⟩
abbrev S256x384 : Shape := ⟨2, ![256, 384]⟩
abbrev S1024x256 : Shape := ⟨2, ![1024, 256]⟩
abbrev S512x256 : Shape := ⟨2, ![512, 256]⟩
abbrev S256x256 : Shape := ⟨2, ![256, 256]⟩
abbrev S2048x384 : Shape := ⟨2, ![2048, 384]⟩
abbrev S6x3 : Shape := ⟨2, ![6, 3]⟩
abbrev S_ : Shape := ⟨0, ![]⟩
abbrev S1x1 : Shape := ⟨2, ![1, 1]⟩

abbrev nBuf : Space → Nat
  | .hbm => 3
  | .vmem => 45
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | .local _ .vmem, ⟨0, _⟩ => ⟨S2048x256, .f32⟩
  | .local _ .vmem, ⟨1, _⟩ => ⟨S256x2048, .f32⟩
  | .local _ .vmem, ⟨2, _⟩ => ⟨S2048x2048, .f32⟩
  | .local _ .vmem, ⟨3, _⟩ => ⟨S1024x384, .bf16⟩
  | .local _ .vmem, ⟨4, _⟩ => ⟨S512x384, .bf16⟩
  | .local _ .vmem, ⟨5, _⟩ => ⟨S256x384, .bf16⟩
  | .local _ .vmem, ⟨6, _⟩ => ⟨S1024x384, .bf16⟩
  | .local _ .vmem, ⟨7, _⟩ => ⟨S512x384, .bf16⟩
  | .local _ .vmem, ⟨8, _⟩ => ⟨S256x384, .bf16⟩
  | .local _ .vmem, ⟨9, _⟩ => ⟨S1024x384, .bf16⟩
  | .local _ .vmem, ⟨10, _⟩ => ⟨S512x384, .bf16⟩
  | .local _ .vmem, ⟨11, _⟩ => ⟨S256x384, .bf16⟩
  | .local _ .vmem, ⟨12, _⟩ => ⟨S1024x384, .bf16⟩
  | .local _ .vmem, ⟨13, _⟩ => ⟨S512x384, .bf16⟩
  | .local _ .vmem, ⟨14, _⟩ => ⟨S256x384, .bf16⟩
  | .local _ .vmem, ⟨15, _⟩ => ⟨S1024x256, .bf16⟩
  | .local _ .vmem, ⟨16, _⟩ => ⟨S512x256, .bf16⟩
  | .local _ .vmem, ⟨17, _⟩ => ⟨S256x256, .bf16⟩
  | .local _ .vmem, ⟨18, _⟩ => ⟨S1024x256, .bf16⟩
  | .local _ .vmem, ⟨19, _⟩ => ⟨S512x256, .bf16⟩
  | .local _ .vmem, ⟨20, _⟩ => ⟨S256x256, .bf16⟩
  | .local _ .vmem, ⟨21, _⟩ => ⟨S1024x384, .bf16⟩
  | .local _ .vmem, ⟨22, _⟩ => ⟨S512x384, .bf16⟩
  | .local _ .vmem, ⟨23, _⟩ => ⟨S256x384, .bf16⟩
  | .local _ .vmem, ⟨24, _⟩ => ⟨S1024x384, .bf16⟩
  | .local _ .vmem, ⟨25, _⟩ => ⟨S512x384, .bf16⟩
  | .local _ .vmem, ⟨26, _⟩ => ⟨S256x384, .bf16⟩
  | .local _ .vmem, ⟨27, _⟩ => ⟨S1024x384, .bf16⟩
  | .local _ .vmem, ⟨28, _⟩ => ⟨S512x384, .bf16⟩
  | .local _ .vmem, ⟨29, _⟩ => ⟨S256x384, .bf16⟩
  | .local _ .vmem, ⟨30, _⟩ => ⟨S1024x384, .bf16⟩
  | .local _ .vmem, ⟨31, _⟩ => ⟨S512x384, .bf16⟩
  | .local _ .vmem, ⟨32, _⟩ => ⟨S256x384, .bf16⟩
  | .local _ .vmem, ⟨33, _⟩ => ⟨S1024x256, .bf16⟩
  | .local _ .vmem, ⟨34, _⟩ => ⟨S512x256, .bf16⟩
  | .local _ .vmem, ⟨35, _⟩ => ⟨S256x256, .bf16⟩
  | .local _ .vmem, ⟨36, _⟩ => ⟨S1024x256, .bf16⟩
  | .local _ .vmem, ⟨37, _⟩ => ⟨S512x256, .bf16⟩
  | .local _ .vmem, ⟨38, _⟩ => ⟨S256x256, .bf16⟩
  | .local _ .vmem, ⟨39, _⟩ => ⟨S2048x384, .bf16⟩
  | .local _ .vmem, ⟨40, _⟩ => ⟨S2048x384, .bf16⟩
  | .local _ .vmem, ⟨41, _⟩ => ⟨S2048x384, .bf16⟩
  | .local _ .vmem, ⟨42, _⟩ => ⟨S2048x384, .bf16⟩
  | .local _ .vmem, ⟨43, _⟩ => ⟨S2048x256, .bf16⟩
  | .local _ .vmem, ⟨44, _⟩ => ⟨S2048x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_scratch32 : Ref sig .tc := ⟨.vmem, 35, rfl⟩
abbrev cc0_scratch33 : Ref sig .tc := ⟨.vmem, 36, rfl⟩
abbrev cc0_scratch34 : Ref sig .tc := ⟨.vmem, 37, rfl⟩
abbrev cc0_scratch35 : Ref sig .tc := ⟨.vmem, 38, rfl⟩
abbrev cc0_scratch36 : Ref sig .tc := ⟨.vmem, 39, rfl⟩
abbrev cc0_scratch37 : Ref sig .tc := ⟨.vmem, 40, rfl⟩
abbrev cc0_scratch38 : Ref sig .tc := ⟨.vmem, 41, rfl⟩
abbrev cc0_scratch39 : Ref sig .tc := ⟨.vmem, 42, rfl⟩
abbrev cc0_scratch40 : Ref sig .tc := ⟨.vmem, 43, rfl⟩
abbrev cc0_scratch41 : Ref sig .tc := ⟨.vmem, 44, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_12 : BitVec 32 := 1#32
  let v22 : BitVec 32 := Scalar.muli v12 c1_i32_12
  let v23 : BitVec 32 := Scalar.addi c0_i32 v22
  v23.toNat
def k0_dev2 (d0 : Dev nD) : Nat :=
  let c0_i32_15 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_14 : BitVec 32 := 1#32
  let v24 : BitVec 32 := Scalar.muli v18 c1_i32_14
  let v25 : BitVec 32 := Scalar.addi c0_i32_15 v24
  v25.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_17 : BitVec 32 := 1#32
  let v26 : BitVec 32 := Scalar.muli v20 c1_i32_17
  let v27 : BitVec 32 := Scalar.addi c0_i32_18 v26
  v27.toNat
def k0_off1 (d0 : Dev nD) (c0_i32_21 : BitVec 32) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v31 : BitVec 32 := Scalar.subi c1_i32_20 v7
  let c1024_i32 : BitVec 32 := 1024#32
  let v32 : BitVec 32 := Scalar.muli v31 c1024_i32
  let v33 : BitVec 32 := Scalar.addi v32 c0_i32_21
  let v34 : Index := Scalar.indexCast v33
  let c0_22 : Index := 0#32
  ![v34.toNat, 0]
def k0_off2 (d0 : Dev nD) (c0_i32_21 : BitVec 32) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v31 : BitVec 32 := Scalar.subi c1_i32_20 v7
  let c1024_i32 : BitVec 32 := 1024#32
  let v32 : BitVec 32 := Scalar.muli v31 c1024_i32
  let v33 : BitVec 32 := Scalar.addi v32 c0_i32_21
  let v39 : Index := Scalar.indexCast v33
  let c0_23 : Index := 0#32
  ![v39.toNat, 0]
def k0_off3 (d0 : Dev nD) : Fin 2 → Nat :=
  let c0_i32_35 : BitVec 32 := 0#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v65 : BitVec 32 := Scalar.subi c1_i32_33 v7
  let c1024_i32_34 : BitVec 32 := 1024#32
  let v66 : BitVec 32 := Scalar.muli v65 c1024_i32_34
  let v67 : BitVec 32 := Scalar.addi c0_i32_35 v66
  let v68 : Index := Scalar.indexCast v67
  let c0_36 : Index := 0#32
  ![v68.toNat, 0]
def k0_dev4 (d0 : Dev nD) : Nat :=
  let c0_i32_44 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_43 : BitVec 32 := 1#32
  let v75 : BitVec 32 := Scalar.muli v12 c1_i32_43
  let v76 : BitVec 32 := Scalar.addi c0_i32_44 v75
  v76.toNat
def k0_off4 (d0 : Dev nD) : Fin 2 → Nat :=
  let c0_i32_47 : BitVec 32 := 0#32
  let c1_i32_45 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v81 : BitVec 32 := Scalar.subi c1_i32_45 v7
  let c1024_i32_46 : BitVec 32 := 1024#32
  let v82 : BitVec 32 := Scalar.muli v81 c1024_i32_46
  let v83 : BitVec 32 := Scalar.addi c0_i32_47 v82
  let v84 : Index := Scalar.indexCast v83
  let c384 : Index := 384#32
  ![v84.toNat, 384]
def k0_dev5 (d0 : Dev nD) : Nat :=
  let c0_i32_55 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_54 : BitVec 32 := 1#32
  let v91 : BitVec 32 := Scalar.muli v12 c1_i32_54
  let v92 : BitVec 32 := Scalar.addi c0_i32_55 v91
  v92.toNat
def k0_off5 (d0 : Dev nD) (c0_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_56 : BitVec 32 := 1024#32
  let v97 : BitVec 32 := Scalar.muli v7 c1024_i32_56
  let v98 : BitVec 32 := Scalar.addi v97 c0_i32_57
  let v99 : Index := Scalar.indexCast v98
  let c0_58 : Index := 0#32
  ![v99.toNat, 0]
def k0_off6 (d0 : Dev nD) (c0_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_56 : BitVec 32 := 1024#32
  let v97 : BitVec 32 := Scalar.muli v7 c1024_i32_56
  let v98 : BitVec 32 := Scalar.addi v97 c0_i32_57
  let v104 : Index := Scalar.indexCast v98
  let c0_60 : Index := 0#32
  ![v104.toNat, 0]
def k0_off7 (d0 : Dev nD) : Fin 2 → Nat :=
  let c0_i32_75 : BitVec 32 := 0#32
  let c1_i32_73 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let v130 : BitVec 32 := Scalar.subi c1_i32_73 v5
  let c1024_i32_74 : BitVec 32 := 1024#32
  let v131 : BitVec 32 := Scalar.muli v130 c1024_i32_74
  let v132 : BitVec 32 := Scalar.addi c0_i32_75 v131
  let v133 : Index := Scalar.indexCast v132
  let c768 : Index := 768#32
  ![v133.toNat, 768]
def k0_dev6 (d0 : Dev nD) : Nat :=
  let c0_i32_83 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_82 : BitVec 32 := 1#32
  let v140 : BitVec 32 := Scalar.muli v18 c1_i32_82
  let v141 : BitVec 32 := Scalar.addi c0_i32_83 v140
  v141.toNat
def k0_off8 (d0 : Dev nD) : Fin 2 → Nat :=
  let c0_i32_86 : BitVec 32 := 0#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let v146 : BitVec 32 := Scalar.subi c1_i32_84 v5
  let c1024_i32_85 : BitVec 32 := 1024#32
  let v147 : BitVec 32 := Scalar.muli v146 c1024_i32_85
  let v148 : BitVec 32 := Scalar.addi c0_i32_86 v147
  let v149 : Index := Scalar.indexCast v148
  let c1152 : Index := 1152#32
  ![v149.toNat, 1152]
def k0_dev7 (d0 : Dev nD) : Nat :=
  let c0_i32_94 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_93 : BitVec 32 := 1#32
  let v156 : BitVec 32 := Scalar.muli v18 c1_i32_93
  let v157 : BitVec 32 := Scalar.addi c0_i32_94 v156
  v157.toNat
def k0_off9 (d0 : Dev nD) : Fin 2 → Nat :=
  let c0_i32_97 : BitVec 32 := 0#32
  let c1_i32_95 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v162 : BitVec 32 := Scalar.subi c1_i32_95 v3
  let c1024_i32_96 : BitVec 32 := 1024#32
  let v163 : BitVec 32 := Scalar.muli v162 c1024_i32_96
  let v164 : BitVec 32 := Scalar.addi c0_i32_97 v163
  let v165 : Index := Scalar.indexCast v164
  let c1408 : Index := 1408#32
  ![v165.toNat, 1408]
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_104 : BitVec 32 := 1#32
  let v172 : BitVec 32 := Scalar.muli v20 c1_i32_104
  let v173 : BitVec 32 := Scalar.addi c0_i32_105 v172
  v173.toNat
def k0_off10 (d0 : Dev nD) : Fin 2 → Nat :=
  let c0_i32_108 : BitVec 32 := 0#32
  let c1_i32_106 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v178 : BitVec 32 := Scalar.subi c1_i32_106 v3
  let c1024_i32_107 : BitVec 32 := 1024#32
  let v179 : BitVec 32 := Scalar.muli v178 c1024_i32_107
  let v180 : BitVec 32 := Scalar.addi c0_i32_108 v179
  let v181 : Index := Scalar.indexCast v180
  let c1792 : Index := 1792#32
  ![v181.toNat, 1792]
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_114 : BitVec 32 := 1#32
  let v188 : BitVec 32 := Scalar.muli v20 c1_i32_114
  let v189 : BitVec 32 := Scalar.addi c0_i32_115 v188
  v189.toNat
def k0_off11 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let v200 : Index := Scalar.indexCast v195
  let c0_124 : Index := 0#32
  ![v200.toNat, 0]
def k0_off12 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c1_i32_128 : BitVec 32 := 1#32
  let v208 : BitVec 32 := Scalar.subi c1_i32_128 v5
  let c512_i32_129 : BitVec 32 := 512#32
  let v209 : BitVec 32 := Scalar.muli v208 c512_i32_129
  let v210 : BitVec 32 := Scalar.addi v195 v209
  let v211 : Index := Scalar.indexCast v210
  let c0_130 : Index := 0#32
  ![v211.toNat, 0]
def k0_dev10 (d0 : Dev nD) : Nat :=
  let c0_i32_138 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_137 : BitVec 32 := 1#32
  let v218 : BitVec 32 := Scalar.muli v18 c1_i32_137
  let v219 : BitVec 32 := Scalar.addi c0_i32_138 v218
  v219.toNat
def k0_off13 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let v230 : Index := Scalar.indexCast v225
  let c768_147 : Index := 768#32
  ![v230.toNat, 768]
def k0_off14 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c1_i32_151 : BitVec 32 := 1#32
  let c4_i32 : BitVec 32 := 4#32
  let v3 : BitVec 32 := Scalar.divsi v2 c4_i32
  let v238 : BitVec 32 := Scalar.subi c1_i32_151 v3
  let c512_i32_152 : BitVec 32 := 512#32
  let v239 : BitVec 32 := Scalar.muli v238 c512_i32_152
  let v240 : BitVec 32 := Scalar.addi v225 v239
  let v241 : Index := Scalar.indexCast v240
  let c768_153 : Index := 768#32
  ![v241.toNat, 768]
def k0_dev11 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_160 : BitVec 32 := 1#32
  let v248 : BitVec 32 := Scalar.muli v20 c1_i32_160
  let v249 : BitVec 32 := Scalar.addi c0_i32_161 v248
  v249.toNat
def k0_off15 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let v260 : Index := Scalar.indexCast v255
  let c1408_170 : Index := 1408#32
  ![v260.toNat, 1408]
def k0_off16 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c1_i32_174 : BitVec 32 := 1#32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v268 : BitVec 32 := Scalar.subi c1_i32_174 v7
  let c512_i32_175 : BitVec 32 := 512#32
  let v269 : BitVec 32 := Scalar.muli v268 c512_i32_175
  let v270 : BitVec 32 := Scalar.addi v255 v269
  let v271 : Index := Scalar.indexCast v270
  let c1408_176 : Index := 1408#32
  ![v271.toNat, 1408]
def k0_dev12 (d0 : Dev nD) : Nat :=
  let c0_i32_184 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_183 : BitVec 32 := 1#32
  let v278 : BitVec 32 := Scalar.muli v12 c1_i32_183
  let v279 : BitVec 32 := Scalar.addi c0_i32_184 v278
  v279.toNat
def k0_off17 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let v290 : Index := Scalar.indexCast v285
  let c384_193 : Index := 384#32
  ![v290.toNat, 384]
def k0_off18 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c1_i32_197 : BitVec 32 := 1#32
  let v298 : BitVec 32 := Scalar.subi c1_i32_197 v5
  let c512_i32_198 : BitVec 32 := 512#32
  let v299 : BitVec 32 := Scalar.muli v298 c512_i32_198
  let v300 : BitVec 32 := Scalar.addi v285 v299
  let v301 : Index := Scalar.indexCast v300
  let c384_199 : Index := 384#32
  ![v301.toNat, 384]
def k0_dev13 (d0 : Dev nD) : Nat :=
  let c0_i32_207 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_206 : BitVec 32 := 1#32
  let v308 : BitVec 32 := Scalar.muli v18 c1_i32_206
  let v309 : BitVec 32 := Scalar.addi c0_i32_207 v308
  v309.toNat
def k0_off19 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let v320 : Index := Scalar.indexCast v315
  let c1152_216 : Index := 1152#32
  ![v320.toNat, 1152]
def k0_off20 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c1_i32_220 : BitVec 32 := 1#32
  let c4_i32 : BitVec 32 := 4#32
  let v3 : BitVec 32 := Scalar.divsi v2 c4_i32
  let v328 : BitVec 32 := Scalar.subi c1_i32_220 v3
  let c512_i32_221 : BitVec 32 := 512#32
  let v329 : BitVec 32 := Scalar.muli v328 c512_i32_221
  let v330 : BitVec 32 := Scalar.addi v315 v329
  let v331 : Index := Scalar.indexCast v330
  let c1152_222 : Index := 1152#32
  ![v331.toNat, 1152]
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_229 : BitVec 32 := 1#32
  let v338 : BitVec 32 := Scalar.muli v20 c1_i32_229
  let v339 : BitVec 32 := Scalar.addi c0_i32_230 v338
  v339.toNat
def k0_off21 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let v350 : Index := Scalar.indexCast v345
  let c1792_239 : Index := 1792#32
  ![v350.toNat, 1792]
def k0_off22 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c1_i32_243 : BitVec 32 := 1#32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let v358 : BitVec 32 := Scalar.subi c1_i32_243 v7
  let c512_i32_244 : BitVec 32 := 512#32
  let v359 : BitVec 32 := Scalar.muli v358 c512_i32_244
  let v360 : BitVec 32 := Scalar.addi v345 v359
  let v361 : Index := Scalar.indexCast v360
  let c1792_245 : Index := 1792#32
  ![v361.toNat, 1792]
def k0_dev15 (d0 : Dev nD) : Nat :=
  let c0_i32_253 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_252 : BitVec 32 := 1#32
  let v368 : BitVec 32 := Scalar.muli v12 c1_i32_252
  let v369 : BitVec 32 := Scalar.addi c0_i32_253 v368
  v369.toNat
def k0_off23 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let v380 : Index := Scalar.indexCast v375
  let c0_261 : Index := 0#32
  ![v380.toNat, 0]
def k0_off24 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c1_i32_265 : BitVec 32 := 1#32
  let c4_i32 : BitVec 32 := 4#32
  let v3 : BitVec 32 := Scalar.divsi v2 c4_i32
  let v388 : BitVec 32 := Scalar.subi c1_i32_265 v3
  let c256_i32_266 : BitVec 32 := 256#32
  let v389 : BitVec 32 := Scalar.muli v388 c256_i32_266
  let v390 : BitVec 32 := Scalar.addi v375 v389
  let v391 : Index := Scalar.indexCast v390
  let c0_267 : Index := 0#32
  ![v391.toNat, 0]
def k0_dev16 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_274 : BitVec 32 := 1#32
  let v398 : BitVec 32 := Scalar.muli v20 c1_i32_274
  let v399 : BitVec 32 := Scalar.addi c0_i32_275 v398
  v399.toNat
def k0_off25 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let v410 : Index := Scalar.indexCast v405
  let c768_283 : Index := 768#32
  ![v410.toNat, 768]
def k0_off26 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c1_i32_287 : BitVec 32 := 1#32
  let c2_i32_1 : BitVec 32 := 2#32
  let v6 : BitVec 32 := Scalar.remsi v4 c2_i32_1
  let v7 : BitVec 32 := Scalar.xori v6 v5
  let v418 : BitVec 32 := Scalar.subi c1_i32_287 v7
  let c256_i32_288 : BitVec 32 := 256#32
  let v419 : BitVec 32 := Scalar.muli v418 c256_i32_288
  let v420 : BitVec 32 := Scalar.addi v405 v419
  let v421 : Index := Scalar.indexCast v420
  let c768_289 : Index := 768#32
  ![v421.toNat, 768]
def k0_dev17 (d0 : Dev nD) : Nat :=
  let c0_i32_297 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_296 : BitVec 32 := 1#32
  let v428 : BitVec 32 := Scalar.muli v12 c1_i32_296
  let v429 : BitVec 32 := Scalar.addi c0_i32_297 v428
  v429.toNat
def k0_off27 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let v440 : Index := Scalar.indexCast v435
  let c1408_305 : Index := 1408#32
  ![v440.toNat, 1408]
def k0_off28 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c1_i32_309 : BitVec 32 := 1#32
  let v448 : BitVec 32 := Scalar.subi c1_i32_309 v5
  let c256_i32_310 : BitVec 32 := 256#32
  let v449 : BitVec 32 := Scalar.muli v448 c256_i32_310
  let v450 : BitVec 32 := Scalar.addi v435 v449
  let v451 : Index := Scalar.indexCast v450
  let c1408_311 : Index := 1408#32
  ![v451.toNat, 1408]
def k0_dev18 (d0 : Dev nD) : Nat :=
  let c0_i32_319 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_318 : BitVec 32 := 1#32
  let v458 : BitVec 32 := Scalar.muli v18 c1_i32_318
  let v459 : BitVec 32 := Scalar.addi c0_i32_319 v458
  v459.toNat
def k0_off29 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let v470 : Index := Scalar.indexCast v465
  let c384_327 : Index := 384#32
  ![v470.toNat, 384]
def k0_off30 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let c1_i32_331 : BitVec 32 := 1#32
  let c4_i32 : BitVec 32 := 4#32
  let v3 : BitVec 32 := Scalar.divsi v2 c4_i32
  let v478 : BitVec 32 := Scalar.subi c1_i32_331 v3
  let c256_i32_332 : BitVec 32 := 256#32
  let v479 : BitVec 32 := Scalar.muli v478 c256_i32_332
  let v480 : BitVec 32 := Scalar.addi v465 v479
  let v481 : Index := Scalar.indexCast v480
  let c384_333 : Index := 384#32
  ![v481.toNat, 384]
def k0_dev19 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_340 : BitVec 32 := 1#32
  let v488 : BitVec 32 := Scalar.muli v20 c1_i32_340
  let v489 : BitVec 32 := Scalar.addi c0_i32_341 v488
  v489.toNat
def k0_off31 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let v500 : Index := Scalar.indexCast v495
  let c1152_349 : Index := 1152#32
  ![v500.toNat, 1152]
def k0_off32 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c1_i32_353 : BitVec 32 := 1#32
  let c2_i32_1 : BitVec 32 := 2#32
  let v6 : BitVec 32 := Scalar.remsi v4 c2_i32_1
  let v7 : BitVec 32 := Scalar.xori v6 v5
  let v508 : BitVec 32 := Scalar.subi c1_i32_353 v7
  let c256_i32_354 : BitVec 32 := 256#32
  let v509 : BitVec 32 := Scalar.muli v508 c256_i32_354
  let v510 : BitVec 32 := Scalar.addi v495 v509
  let v511 : Index := Scalar.indexCast v510
  let c1152_355 : Index := 1152#32
  ![v511.toNat, 1152]
def k0_dev20 (d0 : Dev nD) : Nat :=
  let c0_i32_363 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_362 : BitVec 32 := 1#32
  let v518 : BitVec 32 := Scalar.muli v12 c1_i32_362
  let v519 : BitVec 32 := Scalar.addi c0_i32_363 v518
  v519.toNat
def k0_off33 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let v530 : Index := Scalar.indexCast v525
  let c1792_371 : Index := 1792#32
  ![v530.toNat, 1792]
def k0_off34 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c1_i32_375 : BitVec 32 := 1#32
  let v538 : BitVec 32 := Scalar.subi c1_i32_375 v5
  let c256_i32_376 : BitVec 32 := 256#32
  let v539 : BitVec 32 := Scalar.muli v538 c256_i32_376
  let v540 : BitVec 32 := Scalar.addi v525 v539
  let v541 : Index := Scalar.indexCast v540
  let c1792_377 : Index := 1792#32
  ![v541.toNat, 1792]
def k0_dev21 (d0 : Dev nD) : Nat :=
  let c0_i32_385 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_384 : BitVec 32 := 1#32
  let v548 : BitVec 32 := Scalar.muli v18 c1_i32_384
  let v549 : BitVec 32 := Scalar.addi c0_i32_385 v548
  v549.toNat
def k0_off35 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let v560 : Index := Scalar.indexCast v555
  let c0_393 : Index := 0#32
  ![v560.toNat, 0]
def k0_off36 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let v576 : Index := Scalar.indexCast v555
  let c0_399 : Index := 0#32
  ![v576.toNat, 0]
def k0_off37 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c0_i32_406 : BitVec 32 := 0#32
  ![v555.toNat, 0]
def k0_dev22 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_404 : BitVec 32 := 1#32
  let v580 : BitVec 32 := Scalar.muli v20 c1_i32_404
  let v581 : BitVec 32 := Scalar.addi c0_i32_405 v580
  v581.toNat
def k0_off38 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let v594 : Index := Scalar.indexCast v589
  let c768_415 : Index := 768#32
  ![v594.toNat, 768]
def k0_off39 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let v610 : Index := Scalar.indexCast v589
  let c0_421 : Index := 0#32
  ![v610.toNat, 0]
def k0_off40 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c0_i32_428 : BitVec 32 := 0#32
  ![v589.toNat, 0]
def k0_dev23 (d0 : Dev nD) : Nat :=
  let c0_i32_427 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_426 : BitVec 32 := 1#32
  let v614 : BitVec 32 := Scalar.muli v12 c1_i32_426
  let v615 : BitVec 32 := Scalar.addi c0_i32_427 v614
  v615.toNat
def k0_off41 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let v628 : Index := Scalar.indexCast v623
  let c1408_437 : Index := 1408#32
  ![v628.toNat, 1408]
def k0_off42 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let v644 : Index := Scalar.indexCast v623
  let c0_443 : Index := 0#32
  ![v644.toNat, 0]
def k0_off43 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c0_i32_450 : BitVec 32 := 0#32
  ![v623.toNat, 0]
def k0_dev24 (d0 : Dev nD) : Nat :=
  let c0_i32_449 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_448 : BitVec 32 := 1#32
  let v648 : BitVec 32 := Scalar.muli v18 c1_i32_448
  let v649 : BitVec 32 := Scalar.addi c0_i32_449 v648
  v649.toNat
def k0_off44 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let c4_i32 : BitVec 32 := 4#32
  let v3 : BitVec 32 := Scalar.divsi v2 c4_i32
  let c256_i32_452 : BitVec 32 := 256#32
  let v656 : BitVec 32 := Scalar.muli v3 c256_i32_452
  let v657 : BitVec 32 := Scalar.addi v465 v656
  let v662 : Index := Scalar.indexCast v657
  let c384_459 : Index := 384#32
  ![v662.toNat, 384]
def k0_dev25 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_470 : BitVec 32 := 1#32
  let v682 : BitVec 32 := Scalar.muli v20 c1_i32_470
  let v683 : BitVec 32 := Scalar.addi c0_i32_471 v682
  v683.toNat
def k0_off45 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let v696 : Index := Scalar.indexCast v691
  let c1152_481 : Index := 1152#32
  ![v696.toNat, 1152]
def k0_off46 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let v712 : Index := Scalar.indexCast v691
  let c0_487 : Index := 0#32
  ![v712.toNat, 0]
def k0_off47 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c0_i32_494 : BitVec 32 := 0#32
  ![v691.toNat, 0]
def k0_dev26 (d0 : Dev nD) : Nat :=
  let c0_i32_493 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_492 : BitVec 32 := 1#32
  let v716 : BitVec 32 := Scalar.muli v12 c1_i32_492
  let v717 : BitVec 32 := Scalar.addi c0_i32_493 v716
  v717.toNat
def k0_off48 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let v730 : Index := Scalar.indexCast v725
  let c1792_503 : Index := 1792#32
  ![v730.toNat, 1792]
def k0_off49 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let v746 : Index := Scalar.indexCast v725
  let c0_509 : Index := 0#32
  ![v746.toNat, 0]
def k0_off50 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c0_i32_516 : BitVec 32 := 0#32
  ![v725.toNat, 0]
def k0_dev27 (d0 : Dev nD) : Nat :=
  let c0_i32_515 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_514 : BitVec 32 := 1#32
  let v750 : BitVec 32 := Scalar.muli v18 c1_i32_514
  let v751 : BitVec 32 := Scalar.addi c0_i32_515 v750
  v751.toNat
def k0_off51 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c0_i32_536 : BitVec 32 := 0#32
  ![v769.toNat, 0]
def k0_dev28 (d0 : Dev nD) : Nat :=
  let c0_i32_535 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_534 : BitVec 32 := 1#32
  let v770 : BitVec 32 := Scalar.muli v18 c1_i32_534
  let v771 : BitVec 32 := Scalar.addi c0_i32_535 v770
  v771.toNat
def k0_off52 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c1_i32_527 : BitVec 32 := 1#32
  let c2_i32_526 : BitVec 32 := 2#32
  let v764 : BitVec 32 := Scalar.muli c2_i32_526 v3
  let v765 : BitVec 32 := Scalar.subi c1_i32_527 v764
  let c256_i32_528 : BitVec 32 := 256#32
  let v766 : BitVec 32 := Scalar.muli v765 c256_i32_528
  let v767 : BitVec 32 := Scalar.addi v555 v766
  let v778 : Index := Scalar.indexCast v767
  let c0_538 : Index := 0#32
  ![v778.toNat, 0]
def k0_off53 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c1_i32_527 : BitVec 32 := 1#32
  let c2_i32_526 : BitVec 32 := 2#32
  let v764 : BitVec 32 := Scalar.muli c2_i32_526 v3
  let v765 : BitVec 32 := Scalar.subi c1_i32_527 v764
  let c256_i32_528 : BitVec 32 := 256#32
  let v766 : BitVec 32 := Scalar.muli v765 c256_i32_528
  let v767 : BitVec 32 := Scalar.addi v555 v766
  let v781 : Index := Scalar.indexCast v767
  let c0_539 : Index := 0#32
  ![v781.toNat, 0]
def k0_off54 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c0_i32_558 : BitVec 32 := 0#32
  ![v794.toNat, 0]
def k0_dev29 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_556 : BitVec 32 := 1#32
  let v795 : BitVec 32 := Scalar.muli v20 c1_i32_556
  let v796 : BitVec 32 := Scalar.addi c0_i32_557 v795
  v796.toNat
def k0_off55 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c1_i32_549 : BitVec 32 := 1#32
  let c2_i32_548 : BitVec 32 := 2#32
  let v789 : BitVec 32 := Scalar.muli c2_i32_548 v7
  let v790 : BitVec 32 := Scalar.subi c1_i32_549 v789
  let c256_i32_550 : BitVec 32 := 256#32
  let v791 : BitVec 32 := Scalar.muli v790 c256_i32_550
  let v792 : BitVec 32 := Scalar.addi v589 v791
  let v803 : Index := Scalar.indexCast v792
  let c0_560 : Index := 0#32
  ![v803.toNat, 0]
def k0_off56 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c1_i32_549 : BitVec 32 := 1#32
  let c2_i32_548 : BitVec 32 := 2#32
  let v789 : BitVec 32 := Scalar.muli c2_i32_548 v7
  let v790 : BitVec 32 := Scalar.subi c1_i32_549 v789
  let c256_i32_550 : BitVec 32 := 256#32
  let v791 : BitVec 32 := Scalar.muli v790 c256_i32_550
  let v792 : BitVec 32 := Scalar.addi v589 v791
  let v806 : Index := Scalar.indexCast v792
  let c768_561 : Index := 768#32
  ![v806.toNat, 768]
def k0_off57 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c0_i32_580 : BitVec 32 := 0#32
  ![v819.toNat, 0]
def k0_dev30 (d0 : Dev nD) : Nat :=
  let c0_i32_579 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_578 : BitVec 32 := 1#32
  let v820 : BitVec 32 := Scalar.muli v12 c1_i32_578
  let v821 : BitVec 32 := Scalar.addi c0_i32_579 v820
  v821.toNat
def k0_off58 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c1_i32_571 : BitVec 32 := 1#32
  let c2_i32_570 : BitVec 32 := 2#32
  let v814 : BitVec 32 := Scalar.muli c2_i32_570 v5
  let v815 : BitVec 32 := Scalar.subi c1_i32_571 v814
  let c256_i32_572 : BitVec 32 := 256#32
  let v816 : BitVec 32 := Scalar.muli v815 c256_i32_572
  let v817 : BitVec 32 := Scalar.addi v623 v816
  let v828 : Index := Scalar.indexCast v817
  let c0_582 : Index := 0#32
  ![v828.toNat, 0]
def k0_off59 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c1_i32_571 : BitVec 32 := 1#32
  let c2_i32_570 : BitVec 32 := 2#32
  let v814 : BitVec 32 := Scalar.muli c2_i32_570 v5
  let v815 : BitVec 32 := Scalar.subi c1_i32_571 v814
  let c256_i32_572 : BitVec 32 := 256#32
  let v816 : BitVec 32 := Scalar.muli v815 c256_i32_572
  let v817 : BitVec 32 := Scalar.addi v623 v816
  let v831 : Index := Scalar.indexCast v817
  let c1408_583 : Index := 1408#32
  ![v831.toNat, 1408]
def k0_dev31 (d0 : Dev nD) : Nat :=
  let c0_i32_601 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_600 : BitVec 32 := 1#32
  let v845 : BitVec 32 := Scalar.muli v18 c1_i32_600
  let v846 : BitVec 32 := Scalar.addi c0_i32_601 v845
  v846.toNat
def k0_off60 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let c4_i32 : BitVec 32 := 4#32
  let v3 : BitVec 32 := Scalar.divsi v2 c4_i32
  let c256_i32_452 : BitVec 32 := 256#32
  let v656 : BitVec 32 := Scalar.muli v3 c256_i32_452
  let v657 : BitVec 32 := Scalar.addi v465 v656
  let c1_i32_593 : BitVec 32 := 1#32
  let c2_i32_592 : BitVec 32 := 2#32
  let v839 : BitVec 32 := Scalar.muli c2_i32_592 v3
  let v840 : BitVec 32 := Scalar.subi c1_i32_593 v839
  let c256_i32_594 : BitVec 32 := 256#32
  let v841 : BitVec 32 := Scalar.muli v840 c256_i32_594
  let v842 : BitVec 32 := Scalar.addi v657 v841
  let v856 : Index := Scalar.indexCast v842
  let c384_605 : Index := 384#32
  ![v856.toNat, 384]
def k0_off61 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c0_i32_624 : BitVec 32 := 0#32
  ![v869.toNat, 0]
def k0_dev32 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_622 : BitVec 32 := 1#32
  let v870 : BitVec 32 := Scalar.muli v20 c1_i32_622
  let v871 : BitVec 32 := Scalar.addi c0_i32_623 v870
  v871.toNat
def k0_off62 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c1_i32_615 : BitVec 32 := 1#32
  let c2_i32_614 : BitVec 32 := 2#32
  let v864 : BitVec 32 := Scalar.muli c2_i32_614 v7
  let v865 : BitVec 32 := Scalar.subi c1_i32_615 v864
  let c256_i32_616 : BitVec 32 := 256#32
  let v866 : BitVec 32 := Scalar.muli v865 c256_i32_616
  let v867 : BitVec 32 := Scalar.addi v691 v866
  let v878 : Index := Scalar.indexCast v867
  let c0_626 : Index := 0#32
  ![v878.toNat, 0]
def k0_off63 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c1_i32_615 : BitVec 32 := 1#32
  let c2_i32_614 : BitVec 32 := 2#32
  let v864 : BitVec 32 := Scalar.muli c2_i32_614 v7
  let v865 : BitVec 32 := Scalar.subi c1_i32_615 v864
  let c256_i32_616 : BitVec 32 := 256#32
  let v866 : BitVec 32 := Scalar.muli v865 c256_i32_616
  let v867 : BitVec 32 := Scalar.addi v691 v866
  let v881 : Index := Scalar.indexCast v867
  let c1152_627 : Index := 1152#32
  ![v881.toNat, 1152]
def k0_off64 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c0_i32_646 : BitVec 32 := 0#32
  ![v894.toNat, 0]
def k0_dev33 (d0 : Dev nD) : Nat :=
  let c0_i32_645 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_644 : BitVec 32 := 1#32
  let v895 : BitVec 32 := Scalar.muli v12 c1_i32_644
  let v896 : BitVec 32 := Scalar.addi c0_i32_645 v895
  v896.toNat
def k0_off65 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c1_i32_637 : BitVec 32 := 1#32
  let c2_i32_636 : BitVec 32 := 2#32
  let v889 : BitVec 32 := Scalar.muli c2_i32_636 v5
  let v890 : BitVec 32 := Scalar.subi c1_i32_637 v889
  let c256_i32_638 : BitVec 32 := 256#32
  let v891 : BitVec 32 := Scalar.muli v890 c256_i32_638
  let v892 : BitVec 32 := Scalar.addi v725 v891
  let v903 : Index := Scalar.indexCast v892
  let c0_648 : Index := 0#32
  ![v903.toNat, 0]
def k0_off66 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c1_i32_637 : BitVec 32 := 1#32
  let c2_i32_636 : BitVec 32 := 2#32
  let v889 : BitVec 32 := Scalar.muli c2_i32_636 v5
  let v890 : BitVec 32 := Scalar.subi c1_i32_637 v889
  let c256_i32_638 : BitVec 32 := 256#32
  let v891 : BitVec 32 := Scalar.muli v890 c256_i32_638
  let v892 : BitVec 32 := Scalar.addi v725 v891
  let v906 : Index := Scalar.indexCast v892
  let c1792_649 : Index := 1792#32
  ![v906.toNat, 1792]
def k0_off67 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c512_i32_661 : BitVec 32 := 512#32
  let v918 : BitVec 32 := Scalar.muli v5 c512_i32_661
  let v919 : BitVec 32 := Scalar.subi v769 v918
  let c0_i32_668 : BitVec 32 := 0#32
  ![v919.toNat, 0]
def k0_dev34 (d0 : Dev nD) : Nat :=
  let c0_i32_667 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_666 : BitVec 32 := 1#32
  let v920 : BitVec 32 := Scalar.muli v12 c1_i32_666
  let v921 : BitVec 32 := Scalar.addi c0_i32_667 v920
  v921.toNat
def k0_off68 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c1_i32_659 : BitVec 32 := 1#32
  let c2_i32_658 : BitVec 32 := 2#32
  let v914 : BitVec 32 := Scalar.muli c2_i32_658 v5
  let v915 : BitVec 32 := Scalar.subi c1_i32_659 v914
  let c512_i32_660 : BitVec 32 := 512#32
  let v916 : BitVec 32 := Scalar.muli v915 c512_i32_660
  let v917 : BitVec 32 := Scalar.addi v769 v916
  let v928 : Index := Scalar.indexCast v917
  let c0_670 : Index := 0#32
  ![v928.toNat, 0]
def k0_off69 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c1_i32_659 : BitVec 32 := 1#32
  let c2_i32_658 : BitVec 32 := 2#32
  let v914 : BitVec 32 := Scalar.muli c2_i32_658 v5
  let v915 : BitVec 32 := Scalar.subi c1_i32_659 v914
  let c512_i32_660 : BitVec 32 := 512#32
  let v916 : BitVec 32 := Scalar.muli v915 c512_i32_660
  let v917 : BitVec 32 := Scalar.addi v769 v916
  let v931 : Index := Scalar.indexCast v917
  let c0_671 : Index := 0#32
  ![v931.toNat, 0]
def k0_off70 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c512_i32_683 : BitVec 32 := 512#32
  let v943 : BitVec 32 := Scalar.muli v3 c512_i32_683
  let v944 : BitVec 32 := Scalar.subi v794 v943
  let c0_i32_690 : BitVec 32 := 0#32
  ![v944.toNat, 0]
def k0_dev35 (d0 : Dev nD) : Nat :=
  let c0_i32_689 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_688 : BitVec 32 := 1#32
  let v945 : BitVec 32 := Scalar.muli v18 c1_i32_688
  let v946 : BitVec 32 := Scalar.addi c0_i32_689 v945
  v946.toNat
def k0_off71 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c1_i32_681 : BitVec 32 := 1#32
  let c2_i32_680 : BitVec 32 := 2#32
  let v939 : BitVec 32 := Scalar.muli c2_i32_680 v3
  let v940 : BitVec 32 := Scalar.subi c1_i32_681 v939
  let c512_i32_682 : BitVec 32 := 512#32
  let v941 : BitVec 32 := Scalar.muli v940 c512_i32_682
  let v942 : BitVec 32 := Scalar.addi v794 v941
  let v953 : Index := Scalar.indexCast v942
  let c0_692 : Index := 0#32
  ![v953.toNat, 0]
def k0_off72 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c1_i32_681 : BitVec 32 := 1#32
  let c2_i32_680 : BitVec 32 := 2#32
  let v939 : BitVec 32 := Scalar.muli c2_i32_680 v3
  let v940 : BitVec 32 := Scalar.subi c1_i32_681 v939
  let c512_i32_682 : BitVec 32 := 512#32
  let v941 : BitVec 32 := Scalar.muli v940 c512_i32_682
  let v942 : BitVec 32 := Scalar.addi v794 v941
  let v956 : Index := Scalar.indexCast v942
  let c768_693 : Index := 768#32
  ![v956.toNat, 768]
def k0_off73 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c512_i32_705 : BitVec 32 := 512#32
  let v968 : BitVec 32 := Scalar.muli v7 c512_i32_705
  let v969 : BitVec 32 := Scalar.subi v819 v968
  let c0_i32_712 : BitVec 32 := 0#32
  ![v969.toNat, 0]
def k0_dev36 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_710 : BitVec 32 := 1#32
  let v970 : BitVec 32 := Scalar.muli v20 c1_i32_710
  let v971 : BitVec 32 := Scalar.addi c0_i32_711 v970
  v971.toNat
def k0_off74 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c1_i32_703 : BitVec 32 := 1#32
  let c2_i32_702 : BitVec 32 := 2#32
  let v964 : BitVec 32 := Scalar.muli c2_i32_702 v7
  let v965 : BitVec 32 := Scalar.subi c1_i32_703 v964
  let c512_i32_704 : BitVec 32 := 512#32
  let v966 : BitVec 32 := Scalar.muli v965 c512_i32_704
  let v967 : BitVec 32 := Scalar.addi v819 v966
  let v978 : Index := Scalar.indexCast v967
  let c0_714 : Index := 0#32
  ![v978.toNat, 0]
def k0_off75 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c1_i32_703 : BitVec 32 := 1#32
  let c2_i32_702 : BitVec 32 := 2#32
  let v964 : BitVec 32 := Scalar.muli c2_i32_702 v7
  let v965 : BitVec 32 := Scalar.subi c1_i32_703 v964
  let c512_i32_704 : BitVec 32 := 512#32
  let v966 : BitVec 32 := Scalar.muli v965 c512_i32_704
  let v967 : BitVec 32 := Scalar.addi v819 v966
  let v981 : Index := Scalar.indexCast v967
  let c1408_715 : Index := 1408#32
  ![v981.toNat, 1408]
def k0_dev37 (d0 : Dev nD) : Nat :=
  let c0_i32_733 : BitVec 32 := 0#32
  let c4_i32_2 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v8 : BitVec 32 := Scalar.muli c4_i32_2 v3
  let c2_i32_3 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v9 : BitVec 32 := Scalar.muli c2_i32_3 v5
  let v10 : BitVec 32 := Scalar.addi v8 v9
  let c1_i32_4 : BitVec 32 := 1#32
  let c2_i32_1 : BitVec 32 := 2#32
  let v6 : BitVec 32 := Scalar.remsi v4 c2_i32_1
  let v11 : BitVec 32 := Scalar.subi c1_i32_4 v6
  let v12 : BitVec 32 := Scalar.addi v10 v11
  let c1_i32_732 : BitVec 32 := 1#32
  let v995 : BitVec 32 := Scalar.muli v12 c1_i32_732
  let v996 : BitVec 32 := Scalar.addi c0_i32_733 v995
  v996.toNat
def k0_off76 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let c4_i32 : BitVec 32 := 4#32
  let v3 : BitVec 32 := Scalar.divsi v2 c4_i32
  let c256_i32_452 : BitVec 32 := 256#32
  let v656 : BitVec 32 := Scalar.muli v3 c256_i32_452
  let v657 : BitVec 32 := Scalar.addi v465 v656
  let c256_i32_595 : BitVec 32 := 256#32
  let v843 : BitVec 32 := Scalar.muli v3 c256_i32_595
  let v844 : BitVec 32 := Scalar.subi v657 v843
  let c1_i32_725 : BitVec 32 := 1#32
  let c2_i32_724 : BitVec 32 := 2#32
  let v989 : BitVec 32 := Scalar.muli c2_i32_724 v5
  let v990 : BitVec 32 := Scalar.subi c1_i32_725 v989
  let c512_i32_726 : BitVec 32 := 512#32
  let v991 : BitVec 32 := Scalar.muli v990 c512_i32_726
  let v992 : BitVec 32 := Scalar.addi v844 v991
  let v1006 : Index := Scalar.indexCast v992
  let c384_737 : Index := 384#32
  ![v1006.toNat, 384]
def k0_off77 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c512_i32_749 : BitVec 32 := 512#32
  let v1018 : BitVec 32 := Scalar.muli v3 c512_i32_749
  let v1019 : BitVec 32 := Scalar.subi v869 v1018
  let c0_i32_756 : BitVec 32 := 0#32
  ![v1019.toNat, 0]
def k0_dev38 (d0 : Dev nD) : Nat :=
  let c0_i32_755 : BitVec 32 := 0#32
  let c4_i32_5 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v13 : BitVec 32 := Scalar.muli c4_i32_5 v3
  let c2_i32_7 : BitVec 32 := 2#32
  let c1_i32_6 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v14 : BitVec 32 := Scalar.subi c1_i32_6 v5
  let v15 : BitVec 32 := Scalar.muli c2_i32_7 v14
  let v16 : BitVec 32 := Scalar.addi v13 v15
  let c1_i32_8 : BitVec 32 := 1#32
  let c2_i32_1 : BitVec 32 := 2#32
  let v6 : BitVec 32 := Scalar.remsi v4 c2_i32_1
  let v17 : BitVec 32 := Scalar.subi c1_i32_8 v6
  let v18 : BitVec 32 := Scalar.addi v16 v17
  let c1_i32_754 : BitVec 32 := 1#32
  let v1020 : BitVec 32 := Scalar.muli v18 c1_i32_754
  let v1021 : BitVec 32 := Scalar.addi c0_i32_755 v1020
  v1021.toNat
def k0_off78 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c1_i32_747 : BitVec 32 := 1#32
  let c2_i32_746 : BitVec 32 := 2#32
  let v1014 : BitVec 32 := Scalar.muli c2_i32_746 v3
  let v1015 : BitVec 32 := Scalar.subi c1_i32_747 v1014
  let c512_i32_748 : BitVec 32 := 512#32
  let v1016 : BitVec 32 := Scalar.muli v1015 c512_i32_748
  let v1017 : BitVec 32 := Scalar.addi v869 v1016
  let v1028 : Index := Scalar.indexCast v1017
  let c0_758 : Index := 0#32
  ![v1028.toNat, 0]
def k0_off79 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c1_i32_747 : BitVec 32 := 1#32
  let c2_i32_746 : BitVec 32 := 2#32
  let v1014 : BitVec 32 := Scalar.muli c2_i32_746 v3
  let v1015 : BitVec 32 := Scalar.subi c1_i32_747 v1014
  let c512_i32_748 : BitVec 32 := 512#32
  let v1016 : BitVec 32 := Scalar.muli v1015 c512_i32_748
  let v1017 : BitVec 32 := Scalar.addi v869 v1016
  let v1031 : Index := Scalar.indexCast v1017
  let c1152_759 : Index := 1152#32
  ![v1031.toNat, 1152]
def k0_off80 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c512_i32_771 : BitVec 32 := 512#32
  let v1043 : BitVec 32 := Scalar.muli v7 c512_i32_771
  let v1044 : BitVec 32 := Scalar.subi v894 v1043
  let c0_i32_778 : BitVec 32 := 0#32
  ![v1044.toNat, 0]
def k0_dev39 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v19 : BitVec 32 := Scalar.addi v2 c4_i32_9
  let c8_i32_10 : BitVec 32 := 8#32
  let v20 : BitVec 32 := Scalar.remsi v19 c8_i32_10
  let c1_i32_776 : BitVec 32 := 1#32
  let v1045 : BitVec 32 := Scalar.muli v20 c1_i32_776
  let v1046 : BitVec 32 := Scalar.addi c0_i32_777 v1045
  v1046.toNat
def k0_off81 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c1_i32_769 : BitVec 32 := 1#32
  let c2_i32_768 : BitVec 32 := 2#32
  let v1039 : BitVec 32 := Scalar.muli c2_i32_768 v7
  let v1040 : BitVec 32 := Scalar.subi c1_i32_769 v1039
  let c512_i32_770 : BitVec 32 := 512#32
  let v1041 : BitVec 32 := Scalar.muli v1040 c512_i32_770
  let v1042 : BitVec 32 := Scalar.addi v894 v1041
  let v1053 : Index := Scalar.indexCast v1042
  let c0_780 : Index := 0#32
  ![v1053.toNat, 0]
def k0_off82 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c1_i32_769 : BitVec 32 := 1#32
  let c2_i32_768 : BitVec 32 := 2#32
  let v1039 : BitVec 32 := Scalar.muli c2_i32_768 v7
  let v1040 : BitVec 32 := Scalar.subi c1_i32_769 v1039
  let c512_i32_770 : BitVec 32 := 512#32
  let v1041 : BitVec 32 := Scalar.muli v1040 c512_i32_770
  let v1042 : BitVec 32 := Scalar.addi v894 v1041
  let v1056 : Index := Scalar.indexCast v1042
  let c1792_781 : Index := 1792#32
  ![v1056.toNat, 1792]
def k0_off83 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c512_i32_661 : BitVec 32 := 512#32
  let v918 : BitVec 32 := Scalar.muli v5 c512_i32_661
  let v919 : BitVec 32 := Scalar.subi v769 v918
  let c1_i32_791 : BitVec 32 := 1#32
  let c2_i32_790 : BitVec 32 := 2#32
  let v1064 : BitVec 32 := Scalar.muli c2_i32_790 v7
  let v1065 : BitVec 32 := Scalar.subi c1_i32_791 v1064
  let c1024_i32_792 : BitVec 32 := 1024#32
  let v1066 : BitVec 32 := Scalar.muli v1065 c1024_i32_792
  let v1067 : BitVec 32 := Scalar.addi v919 v1066
  let v1068 : Index := Scalar.indexCast v1067
  let c0_793 : Index := 0#32
  ![v1068.toNat, 0]
def k0_off84 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_116 : BitVec 32 := 1024#32
  let v194 : BitVec 32 := Scalar.muli v7 c1024_i32_116
  let v195 : BitVec 32 := Scalar.addi c0_i32_117 v194
  let c512_i32_254 : BitVec 32 := 512#32
  let v374 : BitVec 32 := Scalar.muli v5 c512_i32_254
  let v375 : BitVec 32 := Scalar.addi v195 v374
  let c4_i32 : BitVec 32 := 4#32
  let v3 : BitVec 32 := Scalar.divsi v2 c4_i32
  let c256_i32_386 : BitVec 32 := 256#32
  let v554 : BitVec 32 := Scalar.muli v3 c256_i32_386
  let v555 : BitVec 32 := Scalar.addi v375 v554
  let c256_i32_529 : BitVec 32 := 256#32
  let v768 : BitVec 32 := Scalar.muli v3 c256_i32_529
  let v769 : BitVec 32 := Scalar.subi v555 v768
  let c512_i32_661 : BitVec 32 := 512#32
  let v918 : BitVec 32 := Scalar.muli v5 c512_i32_661
  let v919 : BitVec 32 := Scalar.subi v769 v918
  let c1_i32_791 : BitVec 32 := 1#32
  let c2_i32_790 : BitVec 32 := 2#32
  let v1064 : BitVec 32 := Scalar.muli c2_i32_790 v7
  let v1065 : BitVec 32 := Scalar.subi c1_i32_791 v1064
  let c1024_i32_792 : BitVec 32 := 1024#32
  let v1066 : BitVec 32 := Scalar.muli v1065 c1024_i32_792
  let v1067 : BitVec 32 := Scalar.addi v919 v1066
  let v1071 : Index := Scalar.indexCast v1067
  let c0_794 : Index := 0#32
  ![v1071.toNat, 0]
def k0_off85 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c512_i32_683 : BitVec 32 := 512#32
  let v943 : BitVec 32 := Scalar.muli v3 c512_i32_683
  let v944 : BitVec 32 := Scalar.subi v794 v943
  let c1_i32_804 : BitVec 32 := 1#32
  let c2_i32_803 : BitVec 32 := 2#32
  let v1079 : BitVec 32 := Scalar.muli c2_i32_803 v5
  let v1080 : BitVec 32 := Scalar.subi c1_i32_804 v1079
  let c1024_i32_805 : BitVec 32 := 1024#32
  let v1081 : BitVec 32 := Scalar.muli v1080 c1024_i32_805
  let v1082 : BitVec 32 := Scalar.addi v944 v1081
  let v1083 : Index := Scalar.indexCast v1082
  let c0_806 : Index := 0#32
  ![v1083.toNat, 0]
def k0_off86 (d0 : Dev nD) : Fin 2 → Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_139 : BitVec 32 := 1024#32
  let v224 : BitVec 32 := Scalar.muli v5 c1024_i32_139
  let v225 : BitVec 32 := Scalar.addi c0_i32_140 v224
  let c4_i32 : BitVec 32 := 4#32
  let v3 : BitVec 32 := Scalar.divsi v2 c4_i32
  let c512_i32_276 : BitVec 32 := 512#32
  let v404 : BitVec 32 := Scalar.muli v3 c512_i32_276
  let v405 : BitVec 32 := Scalar.addi v225 v404
  let c2_i32_1 : BitVec 32 := 2#32
  let v6 : BitVec 32 := Scalar.remsi v4 c2_i32_1
  let v7 : BitVec 32 := Scalar.xori v6 v5
  let c256_i32_408 : BitVec 32 := 256#32
  let v588 : BitVec 32 := Scalar.muli v7 c256_i32_408
  let v589 : BitVec 32 := Scalar.addi v405 v588
  let c256_i32_551 : BitVec 32 := 256#32
  let v793 : BitVec 32 := Scalar.muli v7 c256_i32_551
  let v794 : BitVec 32 := Scalar.subi v589 v793
  let c512_i32_683 : BitVec 32 := 512#32
  let v943 : BitVec 32 := Scalar.muli v3 c512_i32_683
  let v944 : BitVec 32 := Scalar.subi v794 v943
  let c1_i32_804 : BitVec 32 := 1#32
  let c2_i32_803 : BitVec 32 := 2#32
  let v1079 : BitVec 32 := Scalar.muli c2_i32_803 v5
  let v1080 : BitVec 32 := Scalar.subi c1_i32_804 v1079
  let c1024_i32_805 : BitVec 32 := 1024#32
  let v1081 : BitVec 32 := Scalar.muli v1080 c1024_i32_805
  let v1082 : BitVec 32 := Scalar.addi v944 v1081
  let v1086 : Index := Scalar.indexCast v1082
  let c768_807 : Index := 768#32
  ![v1086.toNat, 768]
def k0_off87 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c512_i32_705 : BitVec 32 := 512#32
  let v968 : BitVec 32 := Scalar.muli v7 c512_i32_705
  let v969 : BitVec 32 := Scalar.subi v819 v968
  let c1_i32_817 : BitVec 32 := 1#32
  let c2_i32_816 : BitVec 32 := 2#32
  let v1094 : BitVec 32 := Scalar.muli c2_i32_816 v3
  let v1095 : BitVec 32 := Scalar.subi c1_i32_817 v1094
  let c1024_i32_818 : BitVec 32 := 1024#32
  let v1096 : BitVec 32 := Scalar.muli v1095 c1024_i32_818
  let v1097 : BitVec 32 := Scalar.addi v969 v1096
  let v1098 : Index := Scalar.indexCast v1097
  let c0_819 : Index := 0#32
  ![v1098.toNat, 0]
def k0_off88 (d0 : Dev nD) : Fin 2 → Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_162 : BitVec 32 := 1024#32
  let v254 : BitVec 32 := Scalar.muli v3 c1024_i32_162
  let v255 : BitVec 32 := Scalar.addi c0_i32_163 v254
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_298 : BitVec 32 := 512#32
  let v434 : BitVec 32 := Scalar.muli v7 c512_i32_298
  let v435 : BitVec 32 := Scalar.addi v255 v434
  let c256_i32_430 : BitVec 32 := 256#32
  let v622 : BitVec 32 := Scalar.muli v5 c256_i32_430
  let v623 : BitVec 32 := Scalar.addi v435 v622
  let c256_i32_573 : BitVec 32 := 256#32
  let v818 : BitVec 32 := Scalar.muli v5 c256_i32_573
  let v819 : BitVec 32 := Scalar.subi v623 v818
  let c512_i32_705 : BitVec 32 := 512#32
  let v968 : BitVec 32 := Scalar.muli v7 c512_i32_705
  let v969 : BitVec 32 := Scalar.subi v819 v968
  let c1_i32_817 : BitVec 32 := 1#32
  let c2_i32_816 : BitVec 32 := 2#32
  let v1094 : BitVec 32 := Scalar.muli c2_i32_816 v3
  let v1095 : BitVec 32 := Scalar.subi c1_i32_817 v1094
  let c1024_i32_818 : BitVec 32 := 1024#32
  let v1096 : BitVec 32 := Scalar.muli v1095 c1024_i32_818
  let v1097 : BitVec 32 := Scalar.addi v969 v1096
  let v1101 : Index := Scalar.indexCast v1097
  let c1408_820 : Index := 1408#32
  ![v1101.toNat, 1408]
def k0_off89 (d0 : Dev nD) : Fin 2 → Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c1024_i32_185 : BitVec 32 := 1024#32
  let v284 : BitVec 32 := Scalar.muli v7 c1024_i32_185
  let v285 : BitVec 32 := Scalar.addi c0_i32_186 v284
  let c512_i32_320 : BitVec 32 := 512#32
  let v464 : BitVec 32 := Scalar.muli v5 c512_i32_320
  let v465 : BitVec 32 := Scalar.addi v285 v464
  let c4_i32 : BitVec 32 := 4#32
  let v3 : BitVec 32 := Scalar.divsi v2 c4_i32
  let c256_i32_452 : BitVec 32 := 256#32
  let v656 : BitVec 32 := Scalar.muli v3 c256_i32_452
  let v657 : BitVec 32 := Scalar.addi v465 v656
  let c256_i32_595 : BitVec 32 := 256#32
  let v843 : BitVec 32 := Scalar.muli v3 c256_i32_595
  let v844 : BitVec 32 := Scalar.subi v657 v843
  let c512_i32_727 : BitVec 32 := 512#32
  let v993 : BitVec 32 := Scalar.muli v5 c512_i32_727
  let v994 : BitVec 32 := Scalar.subi v844 v993
  let c1_i32_830 : BitVec 32 := 1#32
  let c2_i32_829 : BitVec 32 := 2#32
  let v1109 : BitVec 32 := Scalar.muli c2_i32_829 v7
  let v1110 : BitVec 32 := Scalar.subi c1_i32_830 v1109
  let c1024_i32_831 : BitVec 32 := 1024#32
  let v1111 : BitVec 32 := Scalar.muli v1110 c1024_i32_831
  let v1112 : BitVec 32 := Scalar.addi v994 v1111
  let v1116 : Index := Scalar.indexCast v1112
  let c384_833 : Index := 384#32
  ![v1116.toNat, 384]
def k0_off90 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c512_i32_749 : BitVec 32 := 512#32
  let v1018 : BitVec 32 := Scalar.muli v3 c512_i32_749
  let v1019 : BitVec 32 := Scalar.subi v869 v1018
  let c1_i32_843 : BitVec 32 := 1#32
  let c2_i32_842 : BitVec 32 := 2#32
  let v1124 : BitVec 32 := Scalar.muli c2_i32_842 v5
  let v1125 : BitVec 32 := Scalar.subi c1_i32_843 v1124
  let c1024_i32_844 : BitVec 32 := 1024#32
  let v1126 : BitVec 32 := Scalar.muli v1125 c1024_i32_844
  let v1127 : BitVec 32 := Scalar.addi v1019 v1126
  let v1128 : Index := Scalar.indexCast v1127
  let c0_845 : Index := 0#32
  ![v1128.toNat, 0]
def k0_off91 (d0 : Dev nD) : Fin 2 → Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.remsi v2 c4_i32_0
  let c2_i32 : BitVec 32 := 2#32
  let v5 : BitVec 32 := Scalar.divsi v4 c2_i32
  let c1024_i32_208 : BitVec 32 := 1024#32
  let v314 : BitVec 32 := Scalar.muli v5 c1024_i32_208
  let v315 : BitVec 32 := Scalar.addi c0_i32_209 v314
  let c4_i32 : BitVec 32 := 4#32
  let v3 : BitVec 32 := Scalar.divsi v2 c4_i32
  let c512_i32_342 : BitVec 32 := 512#32
  let v494 : BitVec 32 := Scalar.muli v3 c512_i32_342
  let v495 : BitVec 32 := Scalar.addi v315 v494
  let c2_i32_1 : BitVec 32 := 2#32
  let v6 : BitVec 32 := Scalar.remsi v4 c2_i32_1
  let v7 : BitVec 32 := Scalar.xori v6 v5
  let c256_i32_474 : BitVec 32 := 256#32
  let v690 : BitVec 32 := Scalar.muli v7 c256_i32_474
  let v691 : BitVec 32 := Scalar.addi v495 v690
  let c256_i32_617 : BitVec 32 := 256#32
  let v868 : BitVec 32 := Scalar.muli v7 c256_i32_617
  let v869 : BitVec 32 := Scalar.subi v691 v868
  let c512_i32_749 : BitVec 32 := 512#32
  let v1018 : BitVec 32 := Scalar.muli v3 c512_i32_749
  let v1019 : BitVec 32 := Scalar.subi v869 v1018
  let c1_i32_843 : BitVec 32 := 1#32
  let c2_i32_842 : BitVec 32 := 2#32
  let v1124 : BitVec 32 := Scalar.muli c2_i32_842 v5
  let v1125 : BitVec 32 := Scalar.subi c1_i32_843 v1124
  let c1024_i32_844 : BitVec 32 := 1024#32
  let v1126 : BitVec 32 := Scalar.muli v1125 c1024_i32_844
  let v1127 : BitVec 32 := Scalar.addi v1019 v1126
  let v1131 : Index := Scalar.indexCast v1127
  let c1152_846 : Index := 1152#32
  ![v1131.toNat, 1152]
def k0_off92 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c512_i32_771 : BitVec 32 := 512#32
  let v1043 : BitVec 32 := Scalar.muli v7 c512_i32_771
  let v1044 : BitVec 32 := Scalar.subi v894 v1043
  let c1_i32_856 : BitVec 32 := 1#32
  let c2_i32_855 : BitVec 32 := 2#32
  let v1139 : BitVec 32 := Scalar.muli c2_i32_855 v3
  let v1140 : BitVec 32 := Scalar.subi c1_i32_856 v1139
  let c1024_i32_857 : BitVec 32 := 1024#32
  let v1141 : BitVec 32 := Scalar.muli v1140 c1024_i32_857
  let v1142 : BitVec 32 := Scalar.addi v1044 v1141
  let v1143 : Index := Scalar.indexCast v1142
  let c0_858 : Index := 0#32
  ![v1143.toNat, 0]
def k0_off93 (d0 : Dev nD) : Fin 2 → Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c1024_i32_231 : BitVec 32 := 1024#32
  let v344 : BitVec 32 := Scalar.muli v3 c1024_i32_231
  let v345 : BitVec 32 := Scalar.addi c0_i32_232 v344
  let c4_i32_0 : BitVec 32 := 4#32
  let v4 : BitVec 32 := Scalar.remsi v2 c4_i32_0
  let c2_i32_1 : BitVec 32 := 2#32
  let v6 : BitVec 32 := Scalar.remsi v4 c2_i32_1
  let c2_i32 : BitVec 32 := 2#32
  let v5 : BitVec 32 := Scalar.divsi v4 c2_i32
  let v7 : BitVec 32 := Scalar.xori v6 v5
  let c512_i32_364 : BitVec 32 := 512#32
  let v524 : BitVec 32 := Scalar.muli v7 c512_i32_364
  let v525 : BitVec 32 := Scalar.addi v345 v524
  let c256_i32_496 : BitVec 32 := 256#32
  let v724 : BitVec 32 := Scalar.muli v5 c256_i32_496
  let v725 : BitVec 32 := Scalar.addi v525 v724
  let c256_i32_639 : BitVec 32 := 256#32
  let v893 : BitVec 32 := Scalar.muli v5 c256_i32_639
  let v894 : BitVec 32 := Scalar.subi v725 v893
  let c512_i32_771 : BitVec 32 := 512#32
  let v1043 : BitVec 32 := Scalar.muli v7 c512_i32_771
  let v1044 : BitVec 32 := Scalar.subi v894 v1043
  let c1_i32_856 : BitVec 32 := 1#32
  let c2_i32_855 : BitVec 32 := 2#32
  let v1139 : BitVec 32 := Scalar.muli c2_i32_855 v3
  let v1140 : BitVec 32 := Scalar.subi c1_i32_856 v1139
  let c1024_i32_857 : BitVec 32 := 1024#32
  let v1141 : BitVec 32 := Scalar.muli v1140 c1024_i32_857
  let v1142 : BitVec 32 := Scalar.addi v1044 v1141
  let v1146 : Index := Scalar.indexCast v1142
  let c1792_859 : Index := 1792#32
  ![v1146.toNat, 1792]
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Cube.lean ====
/- The cube of eight devices and the halving of the rows along its axes. -/
module

public import Mathlib.Data.Fin.Basic
public import Mathlib.Data.Fintype.Basic
public import Mathlib.Order.Fin.Basic

@[expose] public section

namespace Cert.CubeLib

/-- A device's coordinate along an axis. -/
def bit (a : Fin 3) (c : Fin 8) : Nat :=
  match a with
  | 0 => (c.val % 2 + c.val / 2) % 2
  | 1 => c.val / 2 % 2
  | 2 => c.val / 4

/-- The device across an axis: the one that differs in that coordinate alone. -/
def peer (a : Fin 3) (c : Fin 8) : Fin 8 :=
  match a with
  | 0 => ⟨(c.val / 2 * 2 + (1 - c.val % 2)) % 8, Nat.mod_lt _ (by decide)⟩
  | 1 => ⟨(c.val / 4 * 4 + (1 - c.val / 2 % 2) * 2 + (1 - c.val % 2)) % 8, Nat.mod_lt _ (by decide)⟩
  | 2 => ⟨(c.val + 4) % 8, Nat.mod_lt _ (by decide)⟩

/-- The axis column group `g` exchanges along in step `k`. -/
def ax (g : Fin 6) (k : Fin 3) : Fin 3 := ⟨(g.val + k.val) % 3, Nat.mod_lt _ (by decide)⟩

/-- Of group `g`, the step along axis `a`. -/
def stepOf (g : Fin 6) (a : Fin 3) : Fin 3 := ⟨(a.val + 2 * g.val) % 3, Nat.mod_lt _ (by decide)⟩

/-- The first column of a group. -/
abbrev base : Fin 6 → Nat | 0 => 0 | 1 => 768 | 2 => 1408 | 3 => 384 | 4 => 1152 | 5 => 1792

/-- The first of the rows device `c` keeps of group `g` after `n` halvings, and how many they are. -/
def lo (g : Fin 6) (n : Fin 4) (c : Fin 8) : Nat :=
  match n with
  | 0 => 0
  | 1 => 1024 * bit (ax g 0) c
  | 2 => 1024 * bit (ax g 0) c + 512 * bit (ax g 1) c
  | 3 => 1024 * bit (ax g 0) c + 512 * bit (ax g 1) c + 256 * bit (ax g 2) c
def len : Fin 4 → Nat | 0 => 2048 | 1 => 1024 | 2 => 512 | 3 => 256

/-- Row `r` is among them. -/
def InSeg (g : Fin 6) (n : Fin 4) (c : Fin 8) (r : Nat) : Prop := lo g n c ≤ r ∧ r < lo g n c + len n

instance (g : Fin 6) (n : Fin 4) (c : Fin 8) (r : Nat) : Decidable (InSeg g n c r) := by unfold InSeg; infer_instance

theorem peer_peer : ∀ a c, peer a (peer a c) = c := by decide
theorem peer_ne : ∀ a c, peer a c ≠ c := by decide
theorem peer_inj : ∀ a b c, peer a c = peer b c → a = b := by decide
theorem ax_stepOf : ∀ g a, ax g (stepOf g a) = a := by decide
theorem stepOf_ax : ∀ g k, stepOf g (ax g k) = k := by decide

/-- A group's steps are along the axes, each once. -/
def axEquiv (g : Fin 6) : Fin 3 ≃ Fin 3 := ⟨stepOf g, ax g, ax_stepOf g, stepOf_ax g⟩
def peerEquiv (a : Fin 3) : Fin 8 ≃ Fin 8 := ⟨peer a, peer a, peer_peer a, peer_peer a⟩

theorem halves : ∀ g (k : Fin 3) c,
    (lo g k.succ c = lo g k.castSucc c ∧ lo g k.succ (peer (ax g k) c) = lo g k.castSucc c + len k.succ)
      ∨ (lo g k.succ (peer (ax g k) c) = lo g k.castSucc c ∧ lo g k.succ c = lo g k.castSucc c + len k.succ) := by
  decide +kernel
theorem len_half : ∀ k : Fin 3, len k.castSucc = len k.succ + len k.succ := by decide
theorem lo_peer : ∀ g (k : Fin 3) (n : Fin 4) c, n ≤ k.castSucc → lo g n (peer (ax g k) c) = lo g n c := by decide +kernel

/-- The rows kept and the rows the device across keeps are the rows there were. -/
theorem inSeg_half (g : Fin 6) (k : Fin 3) (c : Fin 8) (r : Nat) :
    InSeg g k.castSucc c r ↔ InSeg g k.succ c r ∨ InSeg g k.succ (peer (ax g k) c) r := by
  have h := halves g k c; have hl := len_half k
  unfold InSeg
  omega
theorem inSeg_apart (g : Fin 6) (k : Fin 3) (c : Fin 8) (r : Nat) (h₁ : InSeg g k.succ c r)
    (h₂ : InSeg g k.succ (peer (ax g k) c) r) : False := by
  have h := halves g k c; have hl := len_half k
  unfold InSeg at h₁ h₂
  omega
theorem inSeg_peer (g : Fin 6) (k : Fin 3) (c : Fin 8) (r : Nat) :
    InSeg g k.castSucc (peer (ax g k) c) r ↔ InSeg g k.castSucc c r := by
  unfold InSeg; rw [lo_peer g k _ c le_rfl]
theorem inSeg_zero (g : Fin 6) (c : Fin 8) (r : Nat) (hr : r < 2048) : InSeg g 0 c r := ⟨Nat.zero_le _, by
  show r < 0 + 2048; omega⟩

/-- The device that owns row `r` of group `g` after the three halvings. -/
def owner (g : Fin 6) (r : Nat) : Fin 8 :=
  ((List.finRange 8).find? fun c => lo g 3 c == 256 * (r / 256)).getD 0

theorem owner_blk : ∀ g (c b : Fin 8), lo g 3 c = 256 * b.val ↔
    (((List.finRange 8).find? fun c => lo g 3 c == 256 * b.val).getD 0) = c := by decide +kernel
theorem lo_mul : ∀ g c, lo g 3 c = 256 * (lo g 3 c / 256) := by decide +kernel

theorem owner_iff (g : Fin 6) (c : Fin 8) (r : Nat) (hr : r < 2048) : InSeg g 3 c r ↔ owner g r = c := by
  have h := owner_blk g c ⟨r / 256, by omega⟩
  unfold owner
  rw [← h]
  have := lo_mul g c
  unfold InSeg len
  show _ ∧ r < _ + 256 ↔ lo g 3 c = 256 * (r / 256)
  omega

end Cert.CubeLib
-- ==== Proof.Held.lean ====
/- Ownership of part of a memref, stated in the memref's own coordinates: core `c` holds, at share `q`, the
   elements at the indices `U`, and they read as `X` says there. Loads, stores, cuts along disjoint index sets
   and along shares are stated once, so that the rest of the proof never looks below the memref. -/
module

public import Idealize.ShloMosaic.Lib.Memref
public import Idealize.ShloMosaic.Lib.Tactic
public import Idealize.ShloMosaic.Lib.Ring

@[expose] public section

noncomputable section

namespace Cert.CubeLib

open Idealize.ShloMosaic Idealize.ShloMosaic.TcCoe
open Idealize.SL Idealize.SL.Sem
open Idealize.SL.BI (sProp)
open scoped Idealize.SL.BI
open Idealize.SL.BI.BIBase Idealize.SL.BI.Laws Idealize.SL.ProofMode
open Idealize.SL.RA
open PCS

variable {nD : Nat} {τ : Topo} {sig : RefSig} {Val : EltTy → Type}
variable {Ix : Type} [DecidableEq Ix] {Name : Type} [DecidableEq Name] {UC : Type} [URA UC] {Lvl : Type}

local notation "𝕄" => MT nD τ sig Ix Val Name UC Lvl

section Held

variable (c : Thread nD τ) {sp : Space} {sh : Shape} {e : EltTy} (m : Memref sig c.2.kind sp sh e)

/-- Core `c` holds the elements at `U` at share `q`; they read as `X`. -/
def held (U : Finset sh.Idx) (q : PosShare TreeShare) (X : sh.Idx → Val e) : sProp 𝕄 :=
  iprop(∃ f, ⌜∀ i ∈ U, m.view.read Val f i = X i⌝ ∗ (m.view.loc c ↦[m.view.setOn U]{q} f))

/-- The same at some contents. -/
def heldAny (U : Finset sh.Idx) (q : PosShare TreeShare) : sProp 𝕄 := iprop(∃ X, held c m U q X)

instance held_storable (U : Finset sh.Idx) (q : PosShare TreeShare) (X : sh.Idx → Val e) :
    BI.Storable (upEmb : UEmb _ 𝕄) (held c m U q X) := by
  unfold held; infer_instance

instance heldAny_storable (U : Finset sh.Idx) (q : PosShare TreeShare) :
    BI.Storable (upEmb : UEmb _ 𝕄) (heldAny (Val := Val) c m U q) := by
  unfold heldAny; infer_instance

variable {c m}

theorem held_any {U : Finset sh.Idx} {q : PosShare TreeShare} {X : sh.Idx → Val e} :
    (held c m U q X : sProp 𝕄) ⊢ heldAny c m U q := by
  unfold heldAny; iintro H; iexists X; iexact H

theorem held_congr {U : Finset sh.Idx} {q : PosShare TreeShare} {X Y : sh.Idx → Val e} (h : ∀ i ∈ U, X i = Y i) :
    (held c m U q X : sProp 𝕄) ⊢ held c m U q Y := by
  unfold held
  iintro ⟨%f, %hf, H⟩
  iexists f
  isplitr; · ipureintro; exact fun i hi => (hf i hi).trans (h i hi)
  iexact H

theorem held_intro {U : Finset sh.Idx} {q : PosShare TreeShare} (f : m.view.ty.Contents Val) :
    (m.view.loc c ↦[m.view.setOn U]{q} f : sProp 𝕄) ⊢ held c m U q (m.view.read Val f) := by
  unfold held
  iintro H; iexists f
  isplitr; · ipureintro; exact fun _ _ => rfl
  iexact H

/-- Two buffers' contents that read alike at `U` agree on its elements. -/
theorem agree_of_read {U : Finset sh.Idx} {f f' : m.view.ty.Contents Val}
    (h : ∀ i ∈ U, m.view.read Val f i = m.view.read Val f' i) : ∀ i ∈ m.view.setOn U, f i = f' i := by
  intro i hi
  obtain ⟨x, hx, rfl⟩ := Finset.mem_map.mp hi
  exact (cast_inj _).mp (h x hx)

theorem disj_setOn {U V : Finset sh.Idx} (h : Disjoint U V) : Disjoint (m.view.setOn U) (m.view.setOn V) :=
  (Finset.disjoint_map _).mpr h

/-- A cut along disjoint index sets. -/
theorem held_cut {U V : Finset sh.Idx} (h : Disjoint U V) {q : PosShare TreeShare} {X : sh.Idx → Val e} :
    (held c m (U ∪ V) q X : sProp 𝕄) ⊢ iprop(held c m U q X ∗ held c m V q X) := by
  unfold held
  have e1 : m.view.setOn (U ∪ V) = m.view.setOn U ∪ m.view.setOn V := Finset.map_union _ _
  iintro ⟨%f, %hf, H⟩
  ihave H := ((Entails.of_eq (by rw [e1])).trans (pointsTo_union (disj_setOn h)).1) $$ H
  icases H with ⟨H1, H2⟩
  isplitl [H1]
  · iexists f; isplitr; · ipureintro; exact fun i hi => hf i (Finset.mem_union_left _ hi)
    iexact H1
  · iexists f; isplitr; · ipureintro; exact fun i hi => hf i (Finset.mem_union_right _ hi)
    iexact H2

/-- And joined again. -/
theorem held_join {U V : Finset sh.Idx} (h : Disjoint U V) {q : PosShare TreeShare} {X : sh.Idx → Val e} :
    iprop(held c m U q X ∗ held c m V q X) ⊢ (held c m (U ∪ V) q X : sProp 𝕄) := by
  unfold held
  have e1 : m.view.setOn (U ∪ V) = m.view.setOn U ∪ m.view.setOn V := Finset.map_union _ _
  iintro ⟨⟨%f, %hf, H1⟩, ⟨%f', %hf', H2⟩⟩
  ihave H := (pointsTo_join (ℓ := m.view.loc c) (q := q) (f := f) (g := f') (disj_setOn (m := m) h)) $$ [H1 H2]
  · isplitl [H1]; · iexact H1
    iexact H2
  iexists (m.view.setOn V).piecewise f' f
  isplitr
  · ipureintro
    intro i hi
    by_cases hv : i ∈ V
    · rw [← hf' i hv]
      exact congrArg _ (Finset.piecewise_eq_of_mem _ _ _ (m.view.mem_setOn.mpr hv))
    · rw [← hf i ((Finset.mem_union.mp hi).resolve_right hv)]
      exact congrArg _ (Finset.piecewise_eq_of_notMem _ _ _ fun hm => hv (m.view.mem_setOn.mp hm))
  · rw [e1]; iexact H

/-- Parts at unrelated contents join at some contents. -/
theorem heldAny_join {U V : Finset sh.Idx} (h : Disjoint U V) {q : PosShare TreeShare} :
    iprop(heldAny (Val := Val) c m U q ∗ heldAny (Val := Val) c m V q) ⊢ (heldAny (Val := Val) c m (U ∪ V) q : sProp 𝕄) := by
  unfold heldAny
  iintro ⟨⟨%X, H1⟩, ⟨%Y, H2⟩⟩
  iexists fun i => if i ∈ V then Y i else X i
  iapply (held_join h)
  isplitl [H1]
  · iapply (held_congr (X := X) (fun i hi => (if_neg (Finset.disjoint_left.mp h hi)).symm)) $$ H1
  · iapply (held_congr (X := Y) (fun i hi => (if_pos hi).symm)) $$ H2

/-- A cut along a share. -/
theorem held_share {U : Finset sh.Idx} {q q₁ q₂ : PosShare TreeShare} (h : q ∈ q₁ ·? q₂) {X : sh.Idx → Val e} :
    (held c m U q X : sProp 𝕄) ⊢ iprop(held c m U q₁ X ∗ held c m U q₂ X) := by
  unfold held
  iintro ⟨%f, %hf, H⟩
  ihave H := (pointsTo_share h).1 $$ H
  icases H with ⟨H1, H2⟩
  isplitl [H1]
  · iexists f; isplitr; · ipureintro; exact hf
    iexact H1
  · iexists f; isplitr; · ipureintro; exact hf
    iexact H2

/-- And joined again: the two holders read the same. -/
theorem held_unshare {U : Finset sh.Idx} {q q₁ q₂ : PosShare TreeShare} (h : q ∈ q₁ ·? q₂) {X Y : sh.Idx → Val e} :
    iprop(held c m U q₁ X ∗ held c m U q₂ Y) ⊢ (held c m U q X : sProp 𝕄) := by
  unfold held
  iintro ⟨⟨%f, %hf, H1⟩, ⟨%f', %hf', H2⟩⟩
  ihave #Ha := (pointsTo_agree (ℓ := m.view.loc c) (q₁ := q₁) (q₂ := q₂) (f := f) (g := f')
    (I := m.view.setOn U) (J := m.view.setOn U)) $$ [H1 H2]
  · isplitl [H1]; · iexact H1
    iexact H2
  icases Ha with %ha
  iexists f
  isplitr; · ipureintro; exact hf
  iapply (pointsTo_share h).2
  isplitl [H1]; · iexact H1
  rw [pointsTo_congr (f := f) (g := f') (fun i hi => (ha i (Finset.mem_inter.mpr ⟨hi, hi⟩)).1)]
  iexact H2

theorem heldAny_unshare {U : Finset sh.Idx} {q q₁ q₂ : PosShare TreeShare} (h : q ∈ q₁ ·? q₂) :
    iprop(heldAny (Val := Val) c m U q₁ ∗ heldAny (Val := Val) c m U q₂) ⊢ (heldAny (Val := Val) c m U q : sProp 𝕄) := by
  unfold heldAny
  iintro ⟨⟨%X, H1⟩, ⟨%Y, H2⟩⟩
  iexists X
  iapply (held_unshare h)
  isplitl [H1]; · iexact H1
  iexact H2

theorem heldAny_cut {U V : Finset sh.Idx} (h : Disjoint U V) {q : PosShare TreeShare} :
    (heldAny (Val := Val) c m (U ∪ V) q : sProp 𝕄) ⊢ iprop(heldAny (Val := Val) c m U q ∗ heldAny (Val := Val) c m V q) := by
  unfold heldAny
  iintro ⟨%X, H⟩
  ihave H := (held_cut h) $$ H
  icases H with ⟨H1, H2⟩
  isplitl [H1]; · iexists X; iexact H1
  iexists X; iexact H2

/-- A slice held whole is its rectangle held in the memref. -/
theorem held_slice (r : Rect sh) (hr : ∀ a, r.stride a = 1) (q : PosShare TreeShare) (X : sh.Idx → Val e) :
    (held c m r.set q X : sProp 𝕄) ⊢ held c (m.slice r hr) Finset.univ q (fun i => X (r.emb i)) := by
  unfold held
  have hs : (m.slice r hr).view.setOn Finset.univ = m.view.setOn r.set := View.set_slice _ _
  iintro ⟨%f, %hf, H⟩
  iexists f
  isplitr
  · ipureintro; intro i _; exact hf (r.emb i) (r.map_emb_univ ▸ Finset.mem_map_of_mem _ (Finset.mem_univ i))
  rw [hs]; iexact H

theorem held_of_slice (r : Rect sh) (hr : ∀ a, r.stride a = 1) (q : PosShare TreeShare) (X : sh.Idx → Val e) :
    (held c (m.slice r hr) Finset.univ q (fun i => X (r.emb i)) : sProp 𝕄) ⊢ held c m r.set q X := by
  unfold held
  have hs : (m.slice r hr).view.setOn Finset.univ = m.view.setOn r.set := View.set_slice _ _
  iintro ⟨%f, %hf, H⟩
  iexists f
  isplitr
  · ipureintro; intro i hi
    obtain ⟨x, -, rfl⟩ := Finset.mem_map.mp (r.map_emb_univ ▸ hi)
    exact hf x (Finset.mem_univ x)
  rw [← hs]; iexact H

end Held

/-! ## Whole buffers -/

section Whole

variable (c : Thread nD τ) (b : Ref sig c.2.kind)

theorem held_of_whole (q : PosShare TreeShare) (f : b.ty.Contents Val) :
    ((c.loc b) ↦{q} f : sProp 𝕄) ⊢ held c (Memref.whole b) Finset.univ q f := by
  unfold held
  iintro H
  iexists f
  isplitr; · ipureintro; intro i _; rfl
  have hs : (Memref.whole b).view.setOn Finset.univ = Finset.univ := View.set_whole b
  rw [hs]; iexact H

theorem whole_of_held (q : PosShare TreeShare) (X : b.ty.Contents Val) :
    (held c (Memref.whole b) Finset.univ q X : sProp 𝕄) ⊢ ((c.loc b) ↦{q} X) := by
  unfold held
  iintro ⟨%f, %hf, H⟩
  have hs : (Memref.whole b).view.setOn Finset.univ = Finset.univ := View.set_whole b
  have hX : f = X := funext fun i => hf i (Finset.mem_univ i)
  rw [hs, hX]; iexact H

end Whole

/-! ## Loads and stores -/

section Acc

variable [Preorder Lvl] {Λ : Labels} {defs : Defs nD τ sig Val Λ} (𝒱 : Variants) {c : Thread nD τ} (bd : Option 𝒱.V)
  {Γ : PendingWaitsCtx sig Ix} (E : Set Name) {α : Type}
variable {cs : CoreSpace} {s : Shape} {e : EltTy} {m : Memref sig c.2.kind cs s e}

theorem held_load {Q : α → sProp 𝕄} {r : Rect s} {hl : m.view.LoadsAt r.toLoadRect} {k : (r.shape.Idx → Val e) → Prog (TpuEff nD τ sig Val Λ c.2) α}
    {S : Finset s.Idx} {q : PosShare TreeShare} {X : s.Idx → Val e} (hS : r.set ⊆ S) :
    (held c m S q X : sProp 𝕄)
      ⊢ iprop(((held c m S q X : sProp 𝕄) -∗ wp frame (wpE' defs 𝒱 c bd Γ) E (k (fun j => X (r.emb j))) Q)
        -∗ wp frame (wpE' defs 𝒱 c bd Γ) E (.op (.load m r.toLoadRect hl) k) Q) := by
  unfold held
  iintro ⟨%f, %hf, H⟩ Hk
  have hs : m.view.setOn r.toLoadRect.set ⊆ m.view.setOn S := by
    exact Finset.map_subset_map.mpr hS
  iapply (wp_load 𝒱 c bd E (m := m) (r := r.toLoadRect) (hl := hl) (k := k) (S := m.view.setOn S) (f := f)
    hs) $$ H
  iintro H
  have hv : m.view.readAt Val r.toLoadRect f = fun j => X (r.emb j) := funext fun j =>
    hf (r.emb j) (hS (r.map_emb_univ ▸ Finset.mem_map_of_mem _ (Finset.mem_univ j)))
  rw [hv]
  iapply Hk
  iexists f
  isplitr; · ipureintro; exact hf
  iexact H

theorem held_store {Q : α → sProp 𝕄} {r : Rect s} {w : r.shape.Idx → Val e} {hx : (m.access r).Stores Finset.univ}
    {hm : (Finset.univ : Finset r.shape.Idx) = Finset.univ ∨ ∀ a, r.stride a = 1} {k : PUnit → Prog (TpuEff nD τ sig Val Λ c.2) α}
    {S : Finset s.Idx} {X : s.Idx → Val e} (hS : r.set ⊆ S) :
    (held c m S fullShare X : sProp 𝕄)
      ⊢ iprop(((held c m S fullShare (r.overlay X w) : sProp 𝕄) -∗ wp frame (wpE' defs 𝒱 c bd Γ) E (k ⟨⟩) Q)
        -∗ wp frame (wpE' defs 𝒱 c bd Γ) E (.op (.store m r w Finset.univ hx hm) k) Q) := by
  unfold held
  iintro ⟨%f, %hf, H⟩ Hk
  have hset : (m.access r).setOn Finset.univ = m.view.setOn r.set := View.set_slice _ _
  have hs : (m.access r).setOn Finset.univ ⊆ m.view.setOn S := by
    rw [hset]; exact Finset.map_subset_map.mpr hS
  iapply (wp_store 𝒱 c bd E (m := m) (r := r) (w := w) (Mk := Finset.univ) (hx := hx) (hm := hm) (k := k) (S := m.view.setOn S) (f := f)
    hs) $$ H
  iintro H
  iapply Hk
  iexists (m.access r).write Val f w Finset.univ
  isplitr
  · ipureintro
    intro i hi
    by_cases hir : i ∈ r.set
    · obtain ⟨x, -, rfl⟩ := Finset.mem_map.mp (r.map_emb_univ ▸ hir)
      rw [Rect.overlay_emb]
      exact View.read_write_of_mem (v := m.access r) f w (Finset.mem_univ x)
    · rw [Rect.overlay_of_not_mem _ _ _ hir, ← hf i hi]
      unfold View.read
      rw [View.write_of_not_mem]
      rw [hset]
      exact fun hm' => hir (m.view.mem_setOn.mp hm')
  iexact H

end Acc

end Cert.CubeLib

end
-- ==== Proof.Ideal.Prog.lean ====
/- The program restated: the kernel's body as a short list of steps, each written once for every
   column group and every step number, over tables of the printed offsets and devices. -/
module

public import proofs.«01_k».proof.Proof.Gen.KernelIdeal.Skeleton
public import proofs.«01_k».proof.Proof.Gen.KernelIdeal.Points
public import Idealize.ShloMosaic.Lib.Pipeline.Regions

@[expose] public section

set_option synthInstance.maxSize 4096

noncomputable section

namespace Cert.KernelIdeal.Cube

open Idealize.ShloMosaic Idealize.SL.Sem
open Cert.KernelIdeal.Gen

/-! ## Shapes and buffers -/

/-- The number of rows moved in reduce-scatter step `k`. -/
abbrev rsRows : Fin 3 → Nat | 0 => 1024 | 1 => 512 | 2 => 256
/-- The number of rows moved in gathering step `j`. -/
abbrev agRows : Fin 3 → Nat | 0 => 256 | 1 => 512 | 2 => 1024
/-- The width of a column group. -/
abbrev wid : Fin 6 → Nat | 0 => 384 | 1 => 384 | 2 => 384 | 3 => 384 | 4 => 256 | 5 => 256
abbrev rsShape (g : Fin 6) (k : Fin 3) : Shape := ⟨2, ![rsRows k, wid g]⟩
abbrev agPart (g : Fin 6) (j : Fin 3) : Shape := ⟨2, ![agRows j, wid g]⟩
abbrev agShape (g : Fin 6) : Shape := ⟨2, ![2048, wid g]⟩

/-- The buffer column group `g` sends from in reduce-scatter step `k`. -/
def sendM : (g : Fin 6) → (k : Fin 3) → Memref sig .tc .vmem (rsShape g k) .bf16
  | 0, 0 => Memref.whole cc0_scratch0 | 0, 1 => Memref.whole cc0_scratch1 | 0, 2 => Memref.whole cc0_scratch2
  | 1, 0 => Memref.whole cc0_scratch3 | 1, 1 => Memref.whole cc0_scratch4 | 1, 2 => Memref.whole cc0_scratch5
  | 2, 0 => Memref.whole cc0_scratch6 | 2, 1 => Memref.whole cc0_scratch7 | 2, 2 => Memref.whole cc0_scratch8
  | 3, 0 => Memref.whole cc0_scratch9 | 3, 1 => Memref.whole cc0_scratch10 | 3, 2 => Memref.whole cc0_scratch11
  | 4, 0 => Memref.whole cc0_scratch12 | 4, 1 => Memref.whole cc0_scratch13 | 4, 2 => Memref.whole cc0_scratch14
  | 5, 0 => Memref.whole cc0_scratch15 | 5, 1 => Memref.whole cc0_scratch16 | 5, 2 => Memref.whole cc0_scratch17

/-- The buffer column group `g` receives into in reduce-scatter step `k`. -/
def recvM : (g : Fin 6) → (k : Fin 3) → Memref sig .tc .vmem (rsShape g k) .bf16
  | 0, 0 => Memref.whole cc0_scratch18 | 0, 1 => Memref.whole cc0_scratch19 | 0, 2 => Memref.whole cc0_scratch20
  | 1, 0 => Memref.whole cc0_scratch21 | 1, 1 => Memref.whole cc0_scratch22 | 1, 2 => Memref.whole cc0_scratch23
  | 2, 0 => Memref.whole cc0_scratch24 | 2, 1 => Memref.whole cc0_scratch25 | 2, 2 => Memref.whole cc0_scratch26
  | 3, 0 => Memref.whole cc0_scratch27 | 3, 1 => Memref.whole cc0_scratch28 | 3, 2 => Memref.whole cc0_scratch29
  | 4, 0 => Memref.whole cc0_scratch30 | 4, 1 => Memref.whole cc0_scratch31 | 4, 2 => Memref.whole cc0_scratch32
  | 5, 0 => Memref.whole cc0_scratch33 | 5, 1 => Memref.whole cc0_scratch34 | 5, 2 => Memref.whole cc0_scratch35

/-- The buffer the rows of column group `g` are gathered in. -/
def agM : (g : Fin 6) → Memref sig .tc .vmem (agShape g) .bf16
  | 0 => Memref.whole cc0_scratch36
  | 1 => Memref.whole cc0_scratch37
  | 2 => Memref.whole cc0_scratch38
  | 3 => Memref.whole cc0_scratch39
  | 4 => Memref.whole cc0_scratch40
  | 5 => Memref.whole cc0_scratch41

/-- Where the rows sent in reduce-scatter step `k` begin. -/
def offSend : Fin 6 → Fin 3 → Dev nD → Fin 2 → Nat
  | 0, 0 => k0_off3 | 0, 1 => k0_off12 | 0, 2 => k0_off24
  | 1, 0 => k0_off7 | 1, 1 => k0_off14 | 1, 2 => k0_off26
  | 2, 0 => k0_off9 | 2, 1 => k0_off16 | 2, 2 => k0_off28
  | 3, 0 => k0_off4 | 3, 1 => k0_off18 | 3, 2 => k0_off30
  | 4, 0 => k0_off8 | 4, 1 => k0_off20 | 4, 2 => k0_off32
  | 5, 0 => k0_off10 | 5, 1 => k0_off22 | 5, 2 => k0_off34

/-- Where the rows kept in reduce-scatter step `k` begin. -/
def offKeep : Fin 6 → Fin 3 → Dev nD → Fin 2 → Nat
  | 0, 0 => k0_off11 | 0, 1 => k0_off23 | 0, 2 => k0_off35
  | 1, 0 => k0_off13 | 1, 1 => k0_off25 | 1, 2 => k0_off38
  | 2, 0 => k0_off15 | 2, 1 => k0_off27 | 2, 2 => k0_off41
  | 3, 0 => k0_off17 | 3, 1 => k0_off29 | 3, 2 => k0_off44
  | 4, 0 => k0_off19 | 4, 1 => k0_off31 | 4, 2 => k0_off45
  | 5, 0 => k0_off21 | 5, 1 => k0_off33 | 5, 2 => k0_off48

/-- Where a device's own rows begin in the gathering buffer. -/
def offOwn : Fin 6 → Dev nD → Fin 2 → Nat
  | 0 => k0_off36
  | 1 => k0_off39
  | 2 => k0_off42
  | 3 => k0_off36
  | 4 => k0_off46
  | 5 => k0_off49

/-- Where the rows sent in gathering step `j` begin. -/
def offSrc : Fin 6 → Fin 3 → Dev nD → Fin 2 → Nat
  | 0, 0 => k0_off37 | 0, 1 => k0_off51 | 0, 2 => k0_off67
  | 1, 0 => k0_off40 | 1, 1 => k0_off54 | 1, 2 => k0_off70
  | 2, 0 => k0_off43 | 2, 1 => k0_off57 | 2, 2 => k0_off73
  | 3, 0 => k0_off37 | 3, 1 => k0_off51 | 3, 2 => k0_off67
  | 4, 0 => k0_off47 | 4, 1 => k0_off61 | 4, 2 => k0_off77
  | 5, 0 => k0_off50 | 5, 1 => k0_off64 | 5, 2 => k0_off80

/-- Where the rows received in gathering step `j` begin. -/
def offIn : Fin 6 → Fin 3 → Dev nD → Fin 2 → Nat
  | 0, 0 => k0_off52 | 0, 1 => k0_off68 | 0, 2 => k0_off83
  | 1, 0 => k0_off55 | 1, 1 => k0_off71 | 1, 2 => k0_off85
  | 2, 0 => k0_off58 | 2, 1 => k0_off74 | 2, 2 => k0_off87
  | 3, 0 => k0_off52 | 3, 1 => k0_off68 | 3, 2 => k0_off83
  | 4, 0 => k0_off62 | 4, 1 => k0_off78 | 4, 2 => k0_off90
  | 5, 0 => k0_off65 | 5, 1 => k0_off81 | 5, 2 => k0_off92

/-- Where those rows begin in the result. -/
def offInOut : Fin 6 → Fin 3 → Dev nD → Fin 2 → Nat
  | 0, 0 => k0_off53 | 0, 1 => k0_off69 | 0, 2 => k0_off84
  | 1, 0 => k0_off56 | 1, 1 => k0_off72 | 1, 2 => k0_off86
  | 2, 0 => k0_off59 | 2, 1 => k0_off75 | 2, 2 => k0_off88
  | 3, 0 => k0_off60 | 3, 1 => k0_off76 | 3, 2 => k0_off89
  | 4, 0 => k0_off63 | 4, 1 => k0_off79 | 4, 2 => k0_off91
  | 5, 0 => k0_off66 | 5, 1 => k0_off82 | 5, 2 => k0_off93

/-- The device a reduce-scatter step sends to. -/
def devRs : Fin 6 → Fin 3 → Dev nD → Nat
  | 0, 0 => k0_dev4 | 0, 1 => k0_dev10 | 0, 2 => k0_dev16
  | 1, 0 => k0_dev6 | 1, 1 => k0_dev11 | 1, 2 => k0_dev17
  | 2, 0 => k0_dev8 | 2, 1 => k0_dev12 | 2, 2 => k0_dev18
  | 3, 0 => k0_dev5 | 3, 1 => k0_dev13 | 3, 2 => k0_dev19
  | 4, 0 => k0_dev7 | 4, 1 => k0_dev14 | 4, 2 => k0_dev20
  | 5, 0 => k0_dev9 | 5, 1 => k0_dev15 | 5, 2 => k0_dev21

/-- The device a gathering step sends to. -/
def devAg : Fin 6 → Fin 3 → Dev nD → Nat
  | 0, 0 => k0_dev22 | 0, 1 => k0_dev28 | 0, 2 => k0_dev34
  | 1, 0 => k0_dev23 | 1, 1 => k0_dev29 | 1, 2 => k0_dev35
  | 2, 0 => k0_dev24 | 2, 1 => k0_dev30 | 2, 2 => k0_dev36
  | 3, 0 => k0_dev25 | 3, 1 => k0_dev31 | 3, 2 => k0_dev37
  | 4, 0 => k0_dev26 | 4, 1 => k0_dev32 | 4, 2 => k0_dev38
  | 5, 0 => k0_dev27 | 5, 1 => k0_dev33 | 5, 2 => k0_dev39

/-! ## What the tables satisfy -/

theorem sendW : ∀ g k, (sendM g k).IsWhole
  | 0, 0 | 0, 1 | 0, 2 | 1, 0 | 1, 1 | 1, 2 | 2, 0 | 2, 1 | 2, 2
  | 3, 0 | 3, 1 | 3, 2 | 4, 0 | 4, 1 | 4, 2 | 5, 0 | 5, 1 | 5, 2 => Memref.isWhole_whole _
theorem recvW : ∀ g k, (recvM g k).IsWhole
  | 0, 0 | 0, 1 | 0, 2 | 1, 0 | 1, 1 | 1, 2 | 2, 0 | 2, 1 | 2, 2
  | 3, 0 | 3, 1 | 3, 2 | 4, 0 | 4, 1 | 4, 2 | 5, 0 | 5, 1 | 5, 2 => Memref.isWhole_whole _
theorem agW : ∀ g, (agM g).IsWhole
  | 0 | 1 | 2 | 3 | 4 | 5 => Memref.isWhole_whole _

theorem rs_pos : ∀ g k, 0 < (rsShape g k).numel := by decide
theorem ag_pos : ∀ g j, 0 < (agPart g j).numel := by decide
theorem inb0 : ∀ g k a, (![0, 0] : Fin 2 → Nat) a + (rsShape g k).size a ≤ (rsShape g k).size a := by decide
theorem packed0 : ∀ g k, (Rect.unit (s := rsShape g k) ![0, 0] (rsShape g k).size (inb0 g k)).PackedRows (EltTy.packing .bf16) := by
  decide
theorem send_inb : ∀ g k d a, offSend g k d a + (rsShape g k).size a ≤ S2048x2048.size a := by decide +kernel
theorem keep_inb : ∀ g k d a, offKeep g k d a + (rsShape g k).size a ≤ S2048x2048.size a := by decide +kernel
theorem own_inb : ∀ g d a, offOwn g d a + (rsShape g 2).size a ≤ (agShape g).size a := by decide +kernel
theorem src_inb : ∀ g j d a, offSrc g j d a + (agPart g j).size a ≤ (agShape g).size a := by decide +kernel
theorem in_inb : ∀ g j d a, offIn g j d a + (agPart g j).size a ≤ (agShape g).size a := by decide +kernel
theorem inOut_inb : ∀ g j d a, offInOut g j d a + (agPart g j).size a ≤ S2048x2048.size a := by decide +kernel
theorem own_packed : ∀ g d, (Rect.unit (s := agShape g) (offOwn g d) (rsShape g 2).size (own_inb g d)).PackedRows
    (EltTy.packing .bf16) := by decide +kernel
theorem src_words : ∀ g j d, (Rect.unit (s := agShape g) (offSrc g j d) (agPart g j).size (src_inb g j d)).WholeWords
    (EltTy.packing .bf16) := by decide +kernel
theorem devRs_lt : ∀ g k d, devRs g k d < nD := by decide +kernel
theorem devAg_lt : ∀ g k d, devAg g k d < nD := by decide +kernel

/-! ## Semaphores -/

theorem inbSem : ∀ (g : Fin 6) (k : Fin 3) a, (![g.val, k.val] : Fin 2 → Nat) a + S1x1.size a ≤ S6x3.size a := by
  decide
/-- Entry `(g, k)` of a 6 × 3 semaphore array. -/
abbrev semAt (a : DmaSems sig S6x3) (g : Fin 6) (k : Fin 3) : DmaSem sig :=
  ((a.slice (Rect.unit (s := S6x3) ![g.val, k.val] S1x1.size (inbSem g k))).squeeze S_ squeezes_S1x1_S_).sem
abbrev rsS (g : Fin 6) (k : Fin 3) : DmaSem sig := semAt cc0_scratch42 g k
abbrev rsR (g : Fin 6) (k : Fin 3) : DmaSem sig := semAt cc0_scratch43 g k
abbrev agS (g : Fin 6) (k : Fin 3) : DmaSem sig := semAt cc0_scratch44 g k
abbrev agR (g : Fin 6) (k : Fin 3) : DmaSem sig := semAt cc0_scratch45 g k

/-! ## Values -/

variable {F : FTy → Type} [FloatOps F]

/-- Narrowing a block, elementwise. -/
def narrow (s : Shape) (v : Vec F s .f32) : FVec F s .bf16 :=
  shapeCast s (truncf .bf16 (shapeCast s v rfl) bitsLt_bf16_f32) rfl
/-- Adding a received block, widened. -/
def addIn (s : Shape) (v : Vec F s .f32) (r : Vec F s .bf16) : FVec F s .f32 :=
  addf (shapeCast s v rfl) (extf .f32 r bitsLt_bf16_f32)
/-- `v · 1/(1+e^(-v))`, elementwise. -/
def gate (s : Shape) (v : Vec F s .f32) : FVec F s .f32 :=
  mulf (shapeCast s v rfl) (logistic (shapeCast s v rfl))
def gateN (s : Shape) (v : Vec F s .f32) : FVec F s .bf16 :=
  shapeCast s (truncf .bf16 (gate s v) bitsLt_bf16_f32) rfl
/-- Widening a gathered block. -/
def widen (s : Shape) (v : Vec F s .bf16) : FVec F s .f32 := extf .f32 v bitsLt_bf16_f32

/-! ## The steps -/

section Steps

variable (out : Memref sig .tc .vmem S2048x2048 .f32) (hout : out.IsWhole)

abbrev P := Prog (TpuEff nD τ sig (Elt F) Λ₀ .tc) PUnit

/-- Narrow the rows to send into the send buffer and start the copy. -/
def startRs (d : Dev nD) (g : Fin 6) (k : Fin 3) : P (F := F) := do
  let v : Vec F (rsShape g k) .f32 ← Prog.lift (.load out (Rect.unit (s := S2048x2048) (offSend g k d) (rsShape g k).size (send_inb g k d)).toLoadRect (View.loadsAt_vmem (rs_pos g k)))
  let _ : Vec F (rsShape g k) .bf16 ← Prog.lift (.load (sendM g k) (Rect.unit (s := rsShape g k) ![0, 0] (rsShape g k).size (inb0 g k)).toLoadRect (View.loadsAt_vmem (rs_pos g k)))
  Prog.lift (.store (sendM g k) (Rect.unit (s := rsShape g k) ![0, 0] (rsShape g k).size (inb0 g k)) (narrow (rsShape g k) v) Finset.univ (View.stores_vmem (rs_pos g k) ((sendW g k).storeExact_slice rfl _ (packed0 g k)) (fun _ => rfl)) (.inl rfl))
  Prog.lift (.enqueueDma (sendM g k) (.remote (Dev.tc (⟨devRs g k d, devRs_lt g k d⟩ : Dev nD)) (recvM g k) (.dma (rsS g k))) (.dma (rsR g k)) (sendW g k).wordExact (recvW g k).wordExact ⟨⟨rfl, Or.inl rfl⟩, trivial⟩)

/-- The rows sent in gathering step `j`. -/
abbrev srcM (d : Dev nD) (g : Fin 6) (j : Fin 3) : Memref sig .tc .vmem (agPart g j) .bf16 :=
  (agM g).slice (Rect.unit (s := agShape g) (offSrc g j d) (agPart g j).size (src_inb g j d)) (fun _ => rfl)

/-- Start the copy of gathering step `j`. -/
def startAg (d : Dev nD) (g : Fin 6) (j : Fin 3) : P (F := F) := do
  Prog.lift (.enqueueDma (srcM d g j) (.remote (Dev.tc (⟨devAg g j d, devAg_lt g j d⟩ : Dev nD)) (srcM d g j) (.dma (agS g j))) (.dma (agR g j)) ((agW g).wordExact_slice rfl _ (src_words g j d)) ((agW g).wordExact_slice rfl _ (src_words g j d)) ⟨⟨rfl, Or.inl rfl⟩, trivial⟩)

/-- Wait for a partner's rows and add them to the rows kept. -/
def rsAdd (d : Dev nD) (g : Fin 6) (k : Fin 3) : P (F := F) := do
  Prog.lift (.waitDma2 (rsR g k) (sendM g k) (recvM g k) (sendW g k).wordExact (recvW g k).wordExact)
  let v : Vec F (rsShape g k) .f32 ← Prog.lift (.load out (Rect.unit (s := S2048x2048) (offKeep g k d) (rsShape g k).size (keep_inb g k d)).toLoadRect (View.loadsAt_vmem (rs_pos g k)))
  let r : Vec F (rsShape g k) .bf16 ← Prog.lift (.load (recvM g k) (Rect.unit (s := rsShape g k) ![0, 0] (rsShape g k).size (inb0 g k)).toLoadRect (View.loadsAt_vmem (rs_pos g k)))
  let _ : Vec F (rsShape g k) .f32 ← Prog.lift (.load out (Rect.unit (s := S2048x2048) (offKeep g k d) (rsShape g k).size (keep_inb g k d)).toLoadRect (View.loadsAt_vmem (rs_pos g k)))
  Prog.lift (.store out (Rect.unit (s := S2048x2048) (offKeep g k d) (rsShape g k).size (keep_inb g k d)) (addIn (rsShape g k) v r) Finset.univ (View.stores_vmem_bits_univ (rs_pos g k) rfl) (.inl rfl))

/-- Apply the gate to the rows owned and put them, narrowed, in the gathering buffer. -/
def gateOwn (d : Dev nD) (g : Fin 6) : P (F := F) := do
  let v : Vec F (rsShape g 2) .f32 ← Prog.lift (.load out (Rect.unit (s := S2048x2048) (offKeep g 2 d) (rsShape g 2).size (keep_inb g 2 d)).toLoadRect (View.loadsAt_vmem (rs_pos g 2)))
  let _ : Vec F (rsShape g 2) .f32 ← Prog.lift (.load out (Rect.unit (s := S2048x2048) (offKeep g 2 d) (rsShape g 2).size (keep_inb g 2 d)).toLoadRect (View.loadsAt_vmem (rs_pos g 2)))
  Prog.lift (.store out (Rect.unit (s := S2048x2048) (offKeep g 2 d) (rsShape g 2).size (keep_inb g 2 d)) (gate (rsShape g 2) v) Finset.univ (View.stores_vmem_bits_univ (rs_pos g 2) rfl) (.inl rfl))
  let _ : Vec F (rsShape g 2) .bf16 ← Prog.lift (.load (agM g) (Rect.unit (s := agShape g) (offOwn g d) (rsShape g 2).size (own_inb g d)).toLoadRect (View.loadsAt_vmem (rs_pos g 2)))
  Prog.lift (.store (agM g) (Rect.unit (s := agShape g) (offOwn g d) (rsShape g 2).size (own_inb g d)) (gateN (rsShape g 2) v) Finset.univ (View.stores_vmem (rs_pos g 2) ((agW g).storeExact_slice rfl _ (own_packed g d)) (fun _ => rfl)) (.inl rfl))

/-- Wait for the rows of gathering step `j`. -/
def agWait (d : Dev nD) (g : Fin 6) (j : Fin 3) : P (F := F) :=
  Prog.lift (.waitDma2 (agR g j) (srcM d g j) (srcM d g j) ((agW g).wordExact_slice rfl _ (src_words g j d)) ((agW g).wordExact_slice rfl _ (src_words g j d)))

/-- Copy the rows received in gathering step `j`, widened, into the result. -/
def agOut (d : Dev nD) (g : Fin 6) (j : Fin 3) : P (F := F) := do
  let v : Vec F (agPart g j) .bf16 ← Prog.lift (.load (agM g) (Rect.unit (s := agShape g) (offIn g j d) (agPart g j).size (in_inb g j d)).toLoadRect (View.loadsAt_vmem (ag_pos g j)))
  let _ : Vec F (agPart g j) .f32 ← Prog.lift (.load out (Rect.unit (s := S2048x2048) (offInOut g j d) (agPart g j).size (inOut_inb g j d)).toLoadRect (View.loadsAt_vmem (ag_pos g j)))
  Prog.lift (.store out (Rect.unit (s := S2048x2048) (offInOut g j d) (agPart g j).size (inOut_inb g j d)) (widen (agPart g j) v) Finset.univ (View.stores_vmem_bits_univ (ag_pos g j) rfl) (.inl rfl))

/-- Wait until both copies of number `k` have left this device. -/
def finWait (d : Dev nD) (g : Fin 6) (k : Fin 3) : P (F := F) := do
  Prog.lift (.waitDma2 (rsS g k) (recvM g k) (sendM g k) (recvW g k).wordExact (sendW g k).wordExact)
  Prog.lift (.waitDma2 (agS g k) (srcM d g k) (srcM d g k) ((agW g).wordExact_slice rfl _ (src_words g k d)) ((agW g).wordExact_slice rfl _ (src_words g k d)))

/-- Step `n` of column group `g`. -/
def step (d : Dev nD) (g : Fin 6) : Fin 10 → P (F := F)
  | 0 => startRs out d g 0
  | 1 => rsAdd out d g 0 >>= fun _ => startRs out d g 1
  | 2 => rsAdd out d g 1 >>= fun _ => startRs out d g 2
  | 3 => rsAdd out d g 2 >>= fun _ => gateOwn out d g >>= fun _ => startAg d g 0
  | 4 => agWait d g 0 >>= fun _ => startAg d g 1 >>= fun _ => agOut out d g 0
  | 5 => agWait d g 1 >>= fun _ => startAg d g 2 >>= fun _ => agOut out d g 1
  | 6 => agWait d g 2 >>= fun _ => agOut out d g 2
  | 7 => finWait d g 0
  | 8 => finWait d g 1
  | 9 => finWait d g 2

/-- Steps one after another. -/
def steps (d : Dev nD) : List (Fin 6 × Fin 10) → P (F := F)
  | [] => pure ⟨⟩
  | p :: l => step out d p.1 p.2 >>= fun _ => steps d l

variable (x : Memref sig .tc .vmem S2048x256 .f32) (w : Memref sig .tc .vmem S256x2048 .f32)

/-- One block of 256 rows of the product, stored. -/
def gemmRows (oi : Fin 2 → Nat) (hi : ∀ a, oi a + S256x256.size a ≤ S2048x256.size a) (oo : Fin 2 → Nat)
    (ho : ∀ a, oo a + S256x2048.size a ≤ S2048x2048.size a) (wv : Vec F S256x2048 .f32) : P (F := F) := do
  let v : Vec F S256x256 .f32 ← Prog.lift (.load x (Rect.unit (s := S2048x256) oi S256x256.size hi).toLoadRect (View.loadsAt_vmem h_S256x256))
  let _ : Vec F S256x2048 .f32 ← Prog.lift (.load out (Rect.unit (s := S2048x2048) oo S256x2048.size ho).toLoadRect (View.loadsAt_vmem h_S256x2048))
  Prog.lift (.store out (Rect.unit (s := S2048x2048) oo S256x2048.size ho) (k0_pay3 (k0_pay1 wv) v) Finset.univ (View.stores_vmem_bits_univ h_S256x2048 rfl) (.inl rfl))

/-- Where the rows of `x` read for block `r` of half `h` begin, and the rows of the result written. -/
def offX : Fin 2 → Dev nD → Fin 4 → Fin 2 → Nat
  | 0, d, r => k0_off1 d (BitVec.ofNat 32 (256 * r.val))
  | 1, d, r => k0_off5 d (BitVec.ofNat 32 (256 * r.val))
def offY : Fin 2 → Dev nD → Fin 4 → Fin 2 → Nat
  | 0, d, r => k0_off2 d (BitVec.ofNat 32 (256 * r.val))
  | 1, d, r => k0_off6 d (BitVec.ofNat 32 (256 * r.val))
theorem x_inb : ∀ h d r a, offX h d r a + S256x256.size a ≤ S2048x256.size a := by decide +kernel
theorem y_inb : ∀ h d r a, offY h d r a + S256x2048.size a ≤ S2048x2048.size a := by decide +kernel

/-- Half the rows of the product, four blocks of 256 rows. -/
def gemm (d : Dev nD) (h : Fin 2) (wv : Vec F S256x2048 .f32) : P (F := F) :=
  gemmRows out x (offX h d 0) (x_inb h d 0) (offY h d 0) (y_inb h d 0) wv >>= fun _ =>
  gemmRows out x (offX h d 1) (x_inb h d 1) (offY h d 1) (y_inb h d 1) wv >>= fun _ =>
  gemmRows out x (offX h d 2) (x_inb h d 2) (offY h d 2) (y_inb h d 2) wv >>= fun _ =>
  gemmRows out x (offX h d 3) (x_inb h d 3) (offY h d 3) (y_inb h d 3) wv

/-- The barrier semaphore. -/
abbrev barS : Sem sig := (SemArray.scalar (sig.barrier 0 rfl) : Sems sig S_).sem

/-- One signal to each of the three partners. -/
def signals (d : Dev nD) : P (F := F) := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32

/-- The steps after the product, in program order. -/
def todo : List (Fin 6 × Fin 10) :=
  [(1,0), (4,0), (2,0), (5,0),
   (0,1), (1,1), (2,1), (3,1), (4,1), (5,1), (0,2), (1,2), (2,2), (3,2), (4,2), (5,2),
   (0,3), (1,3), (2,3), (3,3), (4,3), (5,3), (0,4), (1,4), (2,4), (3,4), (4,4), (5,4),
   (0,5), (1,5), (2,5), (3,5), (4,5), (5,5), (0,6), (1,6), (2,6), (3,6), (4,6), (5,6),
   (0,7), (0,8), (0,9), (1,7), (1,8), (1,9), (2,7), (2,8), (2,9), (3,7), (3,8), (3,9),
   (4,7), (4,8), (4,9), (5,7), (5,8), (5,9)]

/-- The program after the device has read its number. -/
def progAt (d : Dev nD) : P (F := F) :=
  signals d >>= fun _ =>
  Prog.lift (.load w (Rect.unit (s := S256x2048) ![0, 0] S256x2048.size inb_S256x2048_S256x2048_0_0).toLoadRect (View.loadsAt_vmem h_S256x2048)) >>= fun (wv : Vec F S256x2048 .f32) =>
  gemm out x d 0 wv >>= fun _ =>
  semWaitWord barS 3#32 >>= fun _ =>
  step out d 0 0 >>= fun _ =>
  step out d 3 0 >>= fun _ =>
  gemm out x d 1 wv >>= fun _ =>
  steps out d todo

/-- The kernel's program. -/
def prog : P (F := F) := Prog.lift .deviceId >>= fun d => progAt out x w d

end Steps

/-- The body the pipeline calls is the program. -/
theorem body_eq (t : Fin cfg0.N) :
    bodyAt0 (F := F) t = prog (win0_2.stage (cfg0.slots t 2)) (win0_0.stage (cfg0.slots t 0)) (win0_1.stage (cfg0.slots t 1)) := by
  chain_rfl

end Cert.KernelIdeal.Cube

end
-- ==== Proof.Ideal.Tables.lean ====
/- The printed offsets and devices in closed form. -/
module

public import proofs.«01_k».proof.Proof.Ideal.Prog
public import proofs.«01_k».proof.Proof.Cube

@[expose] public section

noncomputable section

namespace Cert.KernelIdeal.Cube

open Idealize.ShloMosaic Idealize.SL.Sem
open Cert.KernelIdeal.Gen Cert.CubeLib

theorem offSend_eq : ∀ g k d, offSend g k d = ![lo g k.succ (peer (ax g k) d), base g] := by decide +kernel
theorem offKeep_eq : ∀ g k d, offKeep g k d = ![lo g k.succ d, base g] := by decide +kernel
theorem offOwn_eq : ∀ g d, offOwn g d = ![lo g 3 d, 0] := by decide +kernel
theorem offSrc_eq : ∀ g (j : Fin 3) d, offSrc g j d = ![lo g j.rev.succ d, 0] := by decide +kernel
theorem offIn_eq : ∀ g (j : Fin 3) d, offIn g j d = ![lo g j.rev.succ (peer (ax g j.rev) d), 0] := by decide +kernel
theorem offInOut_eq : ∀ g (j : Fin 3) d, offInOut g j d = ![lo g j.rev.succ (peer (ax g j.rev) d), base g] := by
  decide +kernel
theorem devRs_eq : ∀ g k d, (⟨devRs g k d, devRs_lt g k d⟩ : Dev nD) = peer (ax g k) d := by decide +kernel
theorem devAg_eq : ∀ g (j : Fin 3) d, (⟨devAg g j d, devAg_lt g j d⟩ : Dev nD) = peer (ax g j.rev) d := by decide +kernel
theorem dev1_eq : ∀ d, (⟨k0_dev1 d, k0_dev1_lt d⟩ : Dev nD) = peer 0 d := by decide +kernel
theorem dev2_eq : ∀ d, (⟨k0_dev2 d, k0_dev2_lt d⟩ : Dev nD) = peer 1 d := by decide +kernel
theorem dev3_eq : ∀ d, (⟨k0_dev3 d, k0_dev3_lt d⟩ : Dev nD) = peer 2 d := by decide +kernel

/-- The half of the product made first is the one sent along the first axis, the other the one kept. -/
theorem offX_eq : ∀ (h : Fin 2) d (r : Fin 4),
    offX h d r = ![1024 * (if h = 0 then 1 - bit 0 d else bit 0 d) + 256 * r.val, 0] := by decide +kernel
theorem offY_eq : ∀ (h : Fin 2) d (r : Fin 4),
    offY h d r = ![1024 * (if h = 0 then 1 - bit 0 d else bit 0 d) + 256 * r.val, 0] := by decide +kernel

theorem rsRows_eq : ∀ k : Fin 3, rsRows k = len k.succ := by decide
theorem agRows_eq : ∀ j : Fin 3, agRows j = len j.rev.succ := by decide

end Cert.KernelIdeal.Cube

end
-- ==== Proof.Ideal.Values.lean ====
/- What every buffer holds at every step: the product a device makes, the partial sums after each exchange,
   the gated rows and the rows gathered. -/
module

public import proofs.«01_k».proof.Proof.Ideal.Tables
public import Idealize.ShloMosaic.Lib.Pipeline.Value
public import Idealize.ShloMosaic.Lib.Pipeline.ValueKit.Geometry

@[expose] public section

noncomputable section

namespace Cert.KernelIdeal.Cube

open Idealize.ShloMosaic Idealize.SL.Sem
open Cert.KernelIdeal.Gen Cert.CubeLib

/-! ## Sets of elements -/

abbrev OutIdx := S2048x2048.Idx

/-- The elements of the result in column group `g`, rows kept by `c` after `n` halvings. -/
def outSeg (g : Fin 6) (n : Fin 4) (c : Fin 8) : Finset OutIdx :=
  Finset.univ.filter fun i => InSeg g n c (i 0).val ∧ base g ≤ (i 1).val ∧ (i 1).val < base g + wid g
/-- The columns of group `g`. -/
def col (g : Fin 6) : Finset OutIdx := Finset.univ.filter fun i => base g ≤ (i 1).val ∧ (i 1).val < base g + wid g
/-- Those rows in the gathering buffer of the group. -/
def agSeg (g : Fin 6) (n : Fin 4) (c : Fin 8) : Finset (agShape g).Idx := Finset.univ.filter fun i => InSeg g n c (i 0).val

theorem mem_outSeg {g n c} {i : OutIdx} :
    i ∈ outSeg g n c ↔ InSeg g n c (i 0).val ∧ base g ≤ (i 1).val ∧ (i 1).val < base g + wid g := by simp [outSeg]
theorem mem_col {g} {i : OutIdx} : i ∈ col g ↔ base g ≤ (i 1).val ∧ (i 1).val < base g + wid g := by simp [col]
theorem mem_agSeg {g n c} {i : (agShape g).Idx} : i ∈ agSeg g n c ↔ InSeg g n c (i 0).val := by simp [agSeg]

theorem row_lt (i : OutIdx) : (i 0).val < 2048 := (i 0).isLt
theorem agRow_lt {g} (i : (agShape g).Idx) : (i 0).val < 2048 := (i 0).isLt
theorem agCol_lt {g} (i : (agShape g).Idx) : (i 1).val < wid g := (i 1).isLt

theorem outSeg_sub_col (g n c) : outSeg g n c ⊆ col g := fun _ hi => mem_col.mpr (mem_outSeg.mp hi).2
theorem outSeg_zero (g c) : outSeg g 0 c = col g := by
  ext i; rw [mem_outSeg, mem_col]; exact ⟨And.right, fun h => ⟨inSeg_zero g c _ (row_lt i), h⟩⟩
theorem outSeg_half (g : Fin 6) (k : Fin 3) (c) :
    outSeg g k.castSucc c = outSeg g k.succ c ∪ outSeg g k.succ (peer (ax g k) c) := by
  ext i; rw [Finset.mem_union, mem_outSeg, mem_outSeg, mem_outSeg, inSeg_half]; tauto
theorem agSeg_half (g : Fin 6) (k : Fin 3) (c) :
    agSeg g k.castSucc c = agSeg g k.succ c ∪ agSeg g k.succ (peer (ax g k) c) := by
  ext i; rw [Finset.mem_union, mem_agSeg, mem_agSeg, mem_agSeg, inSeg_half]
theorem agSeg_apart (g : Fin 6) (k : Fin 3) (c) : Disjoint (agSeg g k.succ c) (agSeg g k.succ (peer (ax g k) c)) :=
  Finset.disjoint_left.mpr fun _ h₁ h₂ => inSeg_apart g k c _ (mem_agSeg.mp h₁) (mem_agSeg.mp h₂)
theorem agSeg_zero (g c) : agSeg g 0 c = Finset.univ := by
  ext i; rw [mem_agSeg]; exact ⟨fun _ => Finset.mem_univ _, fun _ => inSeg_zero g c _ (agRow_lt i)⟩
theorem agSeg_peer (g : Fin 6) (k : Fin 3) (c) : agSeg g k.castSucc (peer (ax g k) c) = agSeg g k.castSucc c := by
  ext i; rw [mem_agSeg, mem_agSeg, inSeg_peer]

theorem base_wid : ∀ g, base g + wid g ≤ 2048 := by decide
/-- The column groups share no column, and every column is in one. -/
theorem col_disj {g g' : Fin 6} (h : g ≠ g') : Disjoint (col g) (col g') :=
  Finset.disjoint_left.mpr fun i h₁ h₂ => by
    have e₁ := mem_col.mp h₁; have e₂ := mem_col.mp h₂
    have : ∀ g g' : Fin 6, g ≠ g' → base g + wid g ≤ base g' ∨ base g' + wid g' ≤ base g := by decide
    have := this g g' h
    omega
/-- The group of a column. -/
def grp (n : Nat) : Fin 6 :=
  if n < 384 then 0 else if n < 768 then 3 else if n < 1152 then 1 else if n < 1408 then 4 else if n < 1792 then 2 else 5
theorem grp_iff (i : OutIdx) (g : Fin 6) : grp (i 1).val = g ↔ i ∈ col g := by
  have h := (i 1).isLt
  have h' : (i 1).val < 2048 := h
  rw [mem_col]; unfold grp
  fin_cases g <;> (show _ = _ ↔ _ ≤ _ ∧ _ < _ + _) <;> dsimp only [base, wid] <;> split_ifs <;> first | omega | simp <;> omega
theorem col_cover : (Finset.univ : Finset (Fin 6)).biUnion col = Finset.univ := by
  ext i; simp only [Finset.mem_biUnion, Finset.mem_univ, true_and, iff_true]
  exact ⟨grp (i 1).val, (grp_iff i _).mp rfl⟩

/-! ## The blocks moved, as rectangles -/

/-- The rows of the result device `d` keeps in step `k`; -/
abbrev keepR (g : Fin 6) (k : Fin 3) (d : Dev nD) : Rect S2048x2048 :=
  Rect.unit (s := S2048x2048) (offKeep g k d) (rsShape g k).size (keep_inb g k d)
/-- those it sends; -/
abbrev sendR (g : Fin 6) (k : Fin 3) (d : Dev nD) : Rect S2048x2048 :=
  Rect.unit (s := S2048x2048) (offSend g k d) (rsShape g k).size (send_inb g k d)
/-- its own rows in the gathering buffer; -/
abbrev ownR (g : Fin 6) (d : Dev nD) : Rect (agShape g) :=
  Rect.unit (s := agShape g) (offOwn g d) (rsShape g 2).size (own_inb g d)
/-- the rows it sends there in step `j`; -/
abbrev srcR (g : Fin 6) (j : Fin 3) (d : Dev nD) : Rect (agShape g) :=
  Rect.unit (s := agShape g) (offSrc g j d) (agPart g j).size (src_inb g j d)
/-- the rows it receives there; -/
abbrev inR (g : Fin 6) (j : Fin 3) (d : Dev nD) : Rect (agShape g) :=
  Rect.unit (s := agShape g) (offIn g j d) (agPart g j).size (in_inb g j d)
/-- those rows of the result. -/
abbrev inOutR (g : Fin 6) (j : Fin 3) (d : Dev nD) : Rect S2048x2048 :=
  Rect.unit (s := S2048x2048) (offInOut g j d) (agPart g j).size (inOut_inb g j d)

theorem unit_emb_congr {s : Shape} {off off' size : Fin s.rank → Nat} {h h'} (e : off = off')
    (j : (⟨s.rank, size⟩ : Shape).Idx) :
    (Rect.unit (s := s) off size h).emb j = (Rect.unit off' size h').emb j := by subst e; rfl

/-- A rectangle of the result whose rows and columns are a group's. -/
theorem out_set {off size : Fin 2 → Nat} {h : ∀ a, off a + size a ≤ S2048x2048.size a} {g : Fin 6} {n : Fin 4} {c : Fin 8}
    (ho : off = ![lo g n c, base g]) (hs : size = ![len n, wid g]) :
    (Rect.unit (s := S2048x2048) off size h).set = outSeg g n c := by
  subst ho hs
  ext i
  rw [Rect.mem_set_unit, mem_outSeg]
  exact Fin.forall_fin_two
theorem ag_set {off size : Fin 2 → Nat} {g : Fin 6} {h : ∀ a, off a + size a ≤ (agShape g).size a} {n : Fin 4} {c : Fin 8}
    (ho : off = ![lo g n c, 0]) (hs : size = ![len n, wid g]) :
    (Rect.unit (s := agShape g) off size h).set = agSeg g n c := by
  subst ho hs
  ext i
  rw [Rect.mem_set_unit, mem_agSeg]
  exact Fin.forall_fin_two.trans ⟨And.left, fun h => ⟨h, Nat.zero_le _, by
    show (i 1).val < 0 + wid g
    have := agCol_lt i; omega⟩⟩

theorem rs_size (g : Fin 6) (k : Fin 3) : (rsShape g k).size = ![len k.succ, wid g] := by
  show ![rsRows k, wid g] = _; rw [rsRows_eq]
theorem ag_size (g : Fin 6) (j : Fin 3) : (agPart g j).size = ![len j.rev.succ, wid g] := by
  show ![agRows j, wid g] = _; rw [agRows_eq]

theorem keep_set (g k d) : (keepR g k d).set = outSeg g k.succ d := out_set (offKeep_eq g k d) (rs_size g k)
theorem send_set (g k d) : (sendR g k d).set = outSeg g k.succ (peer (ax g k) d) := out_set (offSend_eq g k d) (rs_size g k)
theorem own_set (g d) : (ownR g d).set = agSeg g 3 d := ag_set (offOwn_eq g d) (rs_size g 2)
theorem src_set (g : Fin 6) (j : Fin 3) (d) : (srcR g j d).set = agSeg g j.rev.succ d := ag_set (offSrc_eq g j d) (ag_size g j)
theorem in_set (g : Fin 6) (j : Fin 3) (d) : (inR g j d).set = agSeg g j.rev.succ (peer (ax g j.rev) d) :=
  ag_set (offIn_eq g j d) (ag_size g j)
theorem inOut_set (g : Fin 6) (j : Fin 3) (d) : (inOutR g j d).set = outSeg g j.rev.succ (peer (ax g j.rev) d) :=
  out_set (offInOut_eq g j d) (ag_size g j)
theorem full_set (g k) : (Rect.unit (s := rsShape g k) ![0, 0] (rsShape g k).size (inb0 g k)).set = Finset.univ := by
  ext i
  rw [Rect.mem_set_unit]
  exact ⟨fun _ => Finset.mem_univ _, fun _ => Fin.forall_fin_two.mpr
    ⟨⟨Nat.zero_le _, by have := (i 0).isLt; show (i 0).val < 0 + _; rw [Nat.zero_add]; exact this⟩,
      ⟨Nat.zero_le _, by have := (i 1).isLt; show (i 1).val < 0 + _; rw [Nat.zero_add]; exact this⟩⟩⟩
theorem full_emb (g k) (j : (rsShape g k).Idx) :
    (Rect.unit (s := rsShape g k) ![0, 0] (rsShape g k).size (inb0 g k)).emb j = j := by
  funext a
  apply Fin.ext
  rw [ValueKit.rect_emb_unit_val]
  revert a
  exact Fin.forall_fin_two.mpr ⟨Nat.zero_add _, Nat.zero_add _⟩

/-- What a device sends is what the device across keeps. -/
theorem send_keep (g k d) (j : (rsShape g k).Idx) : (sendR g k d).emb j = (keepR g k (peer (ax g k) d)).emb j :=
  unit_emb_congr (s := S2048x2048) (size := (rsShape g k).size) (h := send_inb g k d) (h' := keep_inb g k _)
    ((offSend_eq g k d).trans (offKeep_eq g k _).symm) j
theorem emb_mem {s : Shape} (r : Rect s) (j : r.shape.Idx) : r.emb j ∈ r.set :=
  r.map_emb_univ ▸ Finset.mem_map_of_mem _ (Finset.mem_univ j)
theorem of_mem {s : Shape} {r : Rect s} {i : s.Idx} (h : i ∈ r.set) : ∃ j, r.emb j = i := by
  obtain ⟨j, -, hj⟩ := Finset.mem_map.mp (r.map_emb_univ ▸ h); exact ⟨j, hj⟩

/-- An element of the gathering buffer as an element of the result. -/
def up (g : Fin 6) (i : (agShape g).Idx) : OutIdx
  | ⟨0, _⟩ => ⟨(i 0).val, agRow_lt i⟩
  | ⟨1, _⟩ => ⟨base g + (i 1).val, Nat.lt_of_lt_of_le (Nat.add_lt_add_left (agCol_lt i) _) (base_wid g)⟩

/-- The same rows in both. -/
theorem up_emb {g : Fin 6} {off off' size : Fin 2 → Nat} {h : ∀ a, off a + size a ≤ (agShape g).size a}
    {h' : ∀ a, off' a + size a ≤ S2048x2048.size a} {n : Nat} (e : off = ![n, 0]) (e' : off' = ![n, base g])
    (j : (⟨2, size⟩ : Shape).Idx) :
    up g ((Rect.unit (s := agShape g) off size h).emb j) = (Rect.unit (s := S2048x2048) off' size h').emb j := by
  subst e e'
  funext a
  apply Fin.ext
  rw [ValueKit.rect_emb_unit_val]
  revert a
  exact Fin.forall_fin_two.mpr ⟨ValueKit.rect_emb_unit_val _ _ _ _ _, by
    show base g + ((Rect.unit (s := agShape g) ![n, 0] size h).emb j 1).val = base g + (j 1).val
    rw [ValueKit.rect_emb_unit_val]; show base g + (0 + _) = _; rw [Nat.zero_add]⟩

theorem up_own (g : Fin 6) (d) (j : (rsShape g 2).Idx) : up g ((ownR g d).emb j) = (keepR g 2 d).emb j :=
  up_emb (offOwn_eq g d) (offKeep_eq g 2 d) j
theorem up_in (g : Fin 6) (i : Fin 3) (d) (j : (agPart g i).Idx) : up g ((inR g i d).emb j) = (inOutR g i d).emb j :=
  up_emb (offIn_eq g i d) (offInOut_eq g i d) j

/-! ## Contents -/

variable {F : FTy → Type} [FloatOps F]
variable (X : Dev nD → Vec F S2048x256 .f32) (W : Dev nD → Vec F S256x2048 .f32)

/-- Rows `256 r …` of a block of `x`. -/
def xrows (r : Nat) (hr : r < 8) (x : Vec F S2048x256 .f32) : Vec F S256x256 .f32 := fun j =>
  x fun | ⟨0, _⟩ => ⟨256 * r + (j 0).val, by have : (j 0).val < 256 := (j 0).isLt; show _ < 2048; omega⟩
        | ⟨1, _⟩ => ⟨(j 1).val, (j 1).isLt⟩
/-- An element of the result within its block of 256 rows. -/
def inBlk (i : OutIdx) : S256x2048.Idx
  | ⟨0, _⟩ => ⟨(i 0).val % 256, Nat.mod_lt _ (by decide)⟩
  | ⟨1, _⟩ => ⟨(i 1).val, (i 1).isLt⟩
theorem blk_lt (i : OutIdx) : (i 0).val / 256 < 8 := by have := row_lt i; omega

/-- The product of device `c`'s blocks. -/
def prod (c : Dev nD) : Vec F S2048x2048 .f32 := fun i =>
  k0_pay3 (k0_pay1 (W c)) (xrows ((i 0).val / 256) (blk_lt i) (X c)) (inBlk i)

/-- A partial sum after an exchange along axis `a`. -/
def fold (a : Fin 3) (A : Dev nD → Vec F S2048x2048 .f32) (c : Dev nD) : Vec F S2048x2048 .f32 :=
  addf (A c) (extf .f32 (truncf .bf16 (A (peer a c)) bitsLt_bf16_f32) bitsLt_bf16_f32)

/-- The partial sums of group `g` after `n` exchanges. -/
def acc (g : Fin 6) : Fin 4 → Dev nD → Vec F S2048x2048 .f32
  | 0 => prod X W
  | 1 => fold (ax g 0) (prod X W)
  | 2 => fold (ax g 1) (fold (ax g 0) (prod X W))
  | 3 => fold (ax g 2) (fold (ax g 1) (fold (ax g 0) (prod X W)))

theorem acc_succ (g : Fin 6) : ∀ k : Fin 3, acc X W g k.succ = fold (ax g k) (acc X W g k.castSucc)
  | 0 => rfl | 1 => rfl | 2 => rfl

/-- The gated rows. -/
def fin (g : Fin 6) (c : Dev nD) : Vec F S2048x2048 .f32 := mulf (acc X W g 3 c) (logistic (acc X W g 3 c))
/-- The gated rows as narrowed by their owner. -/
def agv (g : Fin 6) : FVec F S2048x2048 .bf16 := fun i =>
  truncf .bf16 (fin X W g (owner g (i 0).val)) bitsLt_bf16_f32 i
/-- What the gathering buffer holds. -/
def agx (g : Fin 6) : Vec F (agShape g) .bf16 := fun i => agv X W g (up g i)
/-- What lands in step `k`. -/
def rsVal (g : Fin 6) (k : Fin 3) (c : Dev nD) : Vec F (rsShape g k) .bf16 := fun j =>
  truncf .bf16 (acc X W g k.castSucc (peer (ax g k) c)) bitsLt_bf16_f32 ((keepR g k c).emb j)
/-- The result in group `g`: the rows owned as gated, the others widened again. -/
def final (g : Fin 6) (c : Dev nD) : Vec F S2048x2048 .f32 := fun i =>
  if InSeg g 3 c (i 0).val then fin X W g c i else extf .f32 (agv X W g) bitsLt_bf16_f32 i
/-- The result. -/
def outVal (c : Dev nD) : Vec F S2048x2048 .f32 := fun i => final X W (grp (i 1).val) c i

/-! ## The steps' payloads are these -/

theorem narrow_send (g : Fin 6) (k : Fin 3) (d : Dev nD) (v : Vec F (rsShape g k) .f32)
    (hv : ∀ j, v j = acc X W g k.castSucc d ((sendR g k d).emb j)) (j : (rsShape g k).Idx) :
    narrow (rsShape g k) v j = rsVal X W g k (peer (ax g k) d) j := by
  unfold narrow rsVal
  rw [shapeCast_self, shapeCast_self, peer_peer, truncf, truncf, hv]
  rw [send_keep]

theorem addIn_keep (g : Fin 6) (k : Fin 3) (c : Dev nD) (v : Vec F (rsShape g k) .f32)
    (hv : ∀ j, v j = acc X W g k.castSucc c ((keepR g k c).emb j)) (j : (rsShape g k).Idx) :
    addIn (rsShape g k) v (rsVal X W g k c) j = acc X W g k.succ c ((keepR g k c).emb j) := by
  unfold addIn
  rw [acc_succ, shapeCast_self]
  show FloatOps.addf (v j) _ = _
  rw [hv]; rfl

theorem gate_own (g : Fin 6) (c : Dev nD) (v : Vec F (rsShape g 2) .f32)
    (hv : ∀ j, v j = acc X W g 3 c ((keepR g 2 c).emb j)) (j : (rsShape g 2).Idx) :
    gate (rsShape g 2) v j = fin X W g c ((keepR g 2 c).emb j) := by
  unfold gate
  rw [shapeCast_self]
  show FloatOps.mulf (v j) (FloatOps.logistic (v j)) = _
  rw [hv]; rfl

theorem gateN_own (g : Fin 6) (c : Dev nD) (v : Vec F (rsShape g 2) .f32)
    (hv : ∀ j, v j = acc X W g 3 c ((keepR g 2 c).emb j)) (j : (rsShape g 2).Idx) :
    gateN (rsShape g 2) v j = agx X W g ((ownR g c).emb j) := by
  unfold gateN agx agv
  rw [shapeCast_self, up_own]
  have ho : owner g ((keepR g 2 c).emb j 0).val = c :=
    (owner_iff g c _ (row_lt _)).mp (mem_outSeg.mp (keep_set g 2 c ▸ emb_mem (keepR g 2 c) j)).1
  rw [ho, truncf, truncf, gate_own X W g c v hv]

theorem widen_in (g : Fin 6) (i : Fin 3) (c : Dev nD) (j : (agPart g i).Idx) (h : ¬ InSeg g 3 c ((inOutR g i c).emb j 0).val) :
    widen (agPart g i) (fun j => agx X W g ((inR g i c).emb j)) j = final X W g c ((inOutR g i c).emb j) := by
  unfold widen final
  rw [if_neg h]
  show FloatOps.extf _ _ _ = FloatOps.extf _ _ _
  unfold agx
  beta_reduce
  rw [up_in]

/-- The rows received in a gathering step are not owned. -/
theorem lo_in : ∀ g (k : Fin 3) c, ¬ (lo g k.succ (peer (ax g k) c) ≤ lo g 3 c ∧
    lo g 3 c < lo g k.succ (peer (ax g k) c) + len k.succ) ∧ (lo g 3 c + 256 ≤ lo g k.succ (peer (ax g k) c) ∨
    lo g k.succ (peer (ax g k) c) + len k.succ ≤ lo g 3 c) := by decide +kernel
theorem not_own_of_in {g : Fin 6} {k : Fin 3} {c : Fin 8} {r : Nat} (h : InSeg g k.succ (peer (ax g k) c) r) : ¬ InSeg g 3 c r := by
  have := (lo_in g k c).2
  unfold InSeg at h ⊢
  show ¬ (_ ∧ _ < _ + 256)
  omega

end Cert.KernelIdeal.Cube

end
-- ==== Proof.Ideal.Sched.lean ====
/- The protocol: per semaphore who waits, who pays, how much, and what a payment hands over.

   Every cell has one round. Device `c`'s barrier cell is paid one unit by each of its three partners; the partner
   across axis `a` hands `c` the buffers `c` will copy into over that axis. The four copies' cells are paid by one
   copy each: `rsR` hands the narrowed partial sums, `agR` the gated rows, `rsS` and `agS` the source back. -/
module

public import proofs.«01_k».proof.Proof.Ideal.Values
public import proofs.«01_k».proof.Proof.Held
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A copy's cell: which of the four semaphore arrays, the group and the step. -/
abbrev XK := Fin 4 × Fin 6 × Fin 3
/-- A cell: the barrier or a copy's. -/
abbrev CK := Option XK

def semQ : Fin 4 → Fin 6 → Fin 3 → DmaSem sig | 0 => rsS | 1 => rsR | 2 => agS | 3 => agR
/-- The copies' semaphores are the kernel's own, -/
def osem (x : XK) : SemLoc sig := .dma (semQ x.1 x.2.1 x.2.2)
/-- with the barrier all of them. -/
def csem : CK → SemLoc sig | none => .reg barS | some x => osem x
/-- Device `c`'s cell. -/
abbrev kcell (c : Dev nD) (x : CK) : GSem nD τ sig := ((c : Thread nD τ), csem x)

/-- Which cell a semaphore is. -/
def dec : SemLoc sig → Option CK
  | .reg _ => some none
  | .dma s => if h : s.val < 3 then none else some (some (⟨(s.val - 3) / 18 % 4, Nat.mod_lt _ (by decide)⟩,
      ⟨(s.val - 3) % 18 / 3, by omega⟩, ⟨(s.val - 3) % 3, Nat.mod_lt _ (by decide)⟩))

theorem dec_csem : ∀ x, dec (csem x) = some x := by decide +kernel
theorem csem_inj {x y : CK} (h : csem x = csem y) : x = y :=
  Option.some.inj ((dec_csem x).symm.trans ((congrArg dec h).trans (dec_csem y)))

/-- The kind of a cell of the machine. -/
def gk (g : GSem nD τ sig) : Option CK := if g.1.2 = .tc then dec g.2 else none
theorem gk_kcell (c : Dev nD) (x : CK) : gk (kcell c x) = some x := (if_pos rfl).trans (dec_csem x)
theorem kcell_inj {c c' : Dev nD} {x y : CK} (h : kcell c x = kcell c' y) : c = c' ∧ x = y :=
  ⟨congrArg (fun g : GSem nD τ sig => g.1.1) h, csem_inj (congrArg Prod.snd h)⟩

/-! ## Amounts -/

/-- What a copy of reduce-scatter step `k` is worth, and one of gathering step `j`. -/
def rsN (g : Fin 6) (k : Fin 3) : ℕ := (recvM g k).view.dmaCredit
def agN (g : Fin 6) (j : Fin 3) : ℕ := (agM g).view.ref.dmaCredit (agPart g j) .bf16
def amt : XK → ℕ
  | (0, g, k) => rsN g k | (1, g, k) => rsN g k | (2, g, j) => agN g j | (3, g, j) => agN g j

theorem send_credit : ∀ g k, (sendM g k).view.dmaCredit = rsN g k
  | 0, 0 | 0, 1 | 0, 2 | 1, 0 | 1, 1 | 1, 2 | 2, 0 | 2, 1 | 2, 2
  | 3, 0 | 3, 1 | 3, 2 | 4, 0 | 4, 1 | 4, 2 | 5, 0 | 5, 1 | 5, 2 => rfl
theorem src_credit (d : Dev nD) (g : Fin 6) (j : Fin 3) : (srcM d g j).view.dmaCredit = agN g j := rfl
theorem rsN_pos (g k) : 0 < rsN g k := View.dmaCredit_pos _ (rs_pos g k)
theorem agN_pos (g j) : 0 < agN g j := (src_credit 0 g j) ▸ View.dmaCredit_pos _ (ag_pos g j)
theorem amt_pos : ∀ x, 0 < amt x
  | (0, g, k) => rsN_pos g k | (1, g, k) => rsN_pos g k | (2, g, j) => agN_pos g j | (3, g, j) => agN_pos g j

/-! ## Contents handed over -/

variable (X : Dev nD → Vec F S2048x256 .f32) (W : Dev nD → Vec F S256x2048 .f32)

/-- The share of the rows that goes with the copy of gathering step `j`. -/
def sh : Fin 3 → PosShare TreeShare
  | 0 => fullShare.left | 1 => fullShare.right.left | 2 => fullShare.right.right.left

/-- What device `c` gets with its partner's unit along axis `a`, for group `g`: the buffer it will copy partial sums
    into, and the rows it will copy its gathered rows over. -/
def give (c : Dev nD) (a : Fin 3) (g : Fin 6) : sProp 𝕄 :=
  iprop(heldAny (Val := Elt F) (peer a c : Thread nD τ) (recvM g (stepOf g a)) Finset.univ fullShare
    ∗ heldAny (Val := Elt F) (peer a c : Thread nD τ) (agM g) (agSeg g (stepOf g a).succ c) fullShare)

/-- The payload of device `c`'s cell `x`. -/
def pay (c : Dev nD) : CK → Fin 3 → sProp 𝕄
  | none, a => bigSep Finset.univ (give c a)
  | some (0, g, k), _ => heldAny (Val := Elt F) (c : Thread nD τ) (sendM g k) Finset.univ fullShare
  | some (1, g, k), _ => held (c : Thread nD τ) (recvM g k) Finset.univ fullShare (rsVal X W g k c)
  | some (2, g, j), _ => held (c : Thread nD τ) (agM g) (agSeg g j.rev.succ c) (sh j) (agx X W g)
  | some (3, g, j), _ => held (c : Thread nD τ) (agM g) (agSeg g j.rev.succ (peer (ax g j.rev) c)) fullShare (agx X W g)

/-- The cells' schedule: one round. -/
def Rd : Rounds.Schedule (GSem nD τ sig) (Fin 3) 𝕄 where
  duties g r := if r = 0 then (match gk g with | none => ∅ | some none => Finset.univ | some (some _) => {0}) else ∅
  unitless _ := False
  amount g _ _ := match gk g with | some (some x) => amt x | _ => 1
  payload g _ d := match gk g with | some x => pay X W g.1.1 x d | none => iprop(emp)
  amount_pos g _ _ _ := by
    rcases gk g with _ | _ | x
    · exact Nat.one_pos
    · exact Nat.one_pos
    · exact amt_pos x

instance pay_storable (c : Dev nD) (x : CK) (d : Fin 3) : BI.Storable (upEmb : UEmb _ 𝕄) (pay X W c x d) := by
  rcases x with _ | ⟨q, g, k⟩
  · unfold pay give; infer_instance
  · fin_cases q <;> (unfold pay; infer_instance)

instance Rd_payload_storable (g : GSem nD τ sig) (r : ℕ) (d : Fin 3) :
    BI.Storable (upEmb : UEmb _ 𝕄) ((Rd (F := F) X W).payload g r d) := by
  show BI.Storable upEmb (match gk g with | some x => pay X W g.1.1 x d | none => iprop(emp))
  rcases gk g with _ | x <;> infer_instance

section Sched
variable (c : Dev nD)

theorem duties_bar : (Rd (F := F) X W).duties (kcell c none) 0 = Finset.univ := by
  dsimp only [Rd]; rw [gk_kcell]; rfl
theorem duties_x (x : XK) : (Rd (F := F) X W).duties (kcell c (some x)) 0 = {0} := by
  dsimp only [Rd]; rw [gk_kcell]; rfl
theorem duties_later (g : GSem nD τ sig) : ∀ r, 1 ≤ r → (Rd (F := F) X W).duties g r = ∅ :=
  fun r hr => by dsimp only [Rd]; exact if_neg (by omega)
theorem amount_bar (d : Fin 3) : (Rd (F := F) X W).amount (kcell c none) 0 d = 1 := by dsimp only [Rd]; rw [gk_kcell]
theorem amount_x (x : XK) (d : Fin 3) : (Rd (F := F) X W).amount (kcell c (some x)) 0 d = amt x := by
  dsimp only [Rd]; rw [gk_kcell]
theorem payload_eq (x : CK) (d : Fin 3) : (Rd (F := F) X W).payload (kcell c x) 0 d = pay X W c x d := by
  dsimp only [Rd]; rw [gk_kcell]
theorem expect_bar : (Rd (F := F) X W).expect (kcell c none) 0 = 3 := by
  unfold Schedule.expect Schedule.amountOf
  rw [duties_bar, Finset.sum_congr rfl fun d _ => amount_bar X W c d, Finset.sum_const, Finset.card_univ, Fintype.card_fin, smul_eq_mul]
theorem expect_x (x : XK) : (Rd (F := F) X W).expect (kcell c (some x)) 0 = amt x := by
  unfold Schedule.expect Schedule.amountOf; rw [duties_x, Finset.sum_singleton, amount_x]
theorem rest_bar : bigSep ((Rd (F := F) X W).duties (kcell c none) 0 \ ∅) (fun d => (Rd (F := F) X W).payload (kcell c none) 0 d)
    = bigSep Finset.univ fun a => bigSep Finset.univ (give (F := F) c a) := by
  rw [Finset.sdiff_empty, duties_bar]; exact bigSep_congr fun d _ => payload_eq X W c none d
theorem rest_x (x : XK) : bigSep ((Rd (F := F) X W).duties (kcell c (some x)) 0 \ ∅) (fun d => (Rd (F := F) X W).payload (kcell c (some x)) 0 d)
    = pay X W c (some x) 0 := by
  rw [Finset.sdiff_empty, duties_x, bigSep_singleton, payload_eq]

end Sched

/-! ## What a device owes, in the order it pays; the levels -/

/-- The cell step `n` of group `g` pays, if any: the copy it starts. -/
def payX (g : Fin 6) : Fin 10 → Option (Fin 3 × XK)
  | 0 => some (ax g 0, (1, g, 0)) | 1 => some (ax g 1, (1, g, 1)) | 2 => some (ax g 2, (1, g, 2))
  | 3 => some (ax g 2, (3, g, 0)) | 4 => some (ax g 1, (3, g, 1)) | 5 => some (ax g 0, (3, g, 2))
  | _ => none

def oweOf (c : Dev nD) (p : Fin 6 × Fin 10) : CellTallies nD τ sig Unit :=
  match payX p.1 p.2 with
  | some (a, x) => tallyAt (kcell (peer a c) (some x)) () (amt x)
  | none => 0

/-- What the steps of a list pay. -/
def owe (c : Dev nD) : List (Fin 6 × Fin 10) → CellTallies nD τ sig Unit
  | [] => 0
  | p :: l => owe c l + oweOf c p

/-- The steps that follow the signals. -/
def all : List (Fin 6 × Fin 10) := (0, 0) :: (3, 0) :: todo

/-- A unit on the barrier across axis `a`. -/
abbrev oweBar (c : Dev nD) (a : Fin 3) : CellTallies nD τ sig Unit := tallyAt (kcell (peer a c) none) () 1
/-- What device `c` owes at launch, the signal along the first axis paid first. -/
def O₀ (c : Dev nD) : CellTallies nD τ sig Unit := owe c all + oweBar c 2 + oweBar c 1 + oweBar c 0

def L (g : GSem nD τ sig) : Finset Unit := if g.1.2 = .tc then {()} else ∅
/-- The level of a copy's cell: a device waits for copies in rising order of step. -/
def lvX : XK → ℕ | (0, _, _) => 0 | (1, _, k) => 2 + k.val | (2, _, _) => 0 | (3, _, j) => 5 + j.val
def lv (g : GSem nD τ sig) (_ : Unit) : ℕ := match gk g with | none => 0 | some none => 1 | some (some x) => lvX x

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (x : CK) (u : Unit) : lv (kcell c x) u = match x with | none => 1 | some x => lvX x := by
  unfold lv; rw [gk_kcell]; cases x <;> rfl

theorem payX_lv : ∀ g n a x, payX g n = some (a, x) → lvX x = n.val + 2 := by
  intro g n a x h
  fin_cases n <;> first | (cases h; rfl) | exact absurd h (by simp [payX])

theorem oweOf_pos {c : Dev nD} {p : Fin 6 × Fin 10} {g : GSem nD τ sig} {u : Unit} (h : 0 < oweOf c p g u) :
    ∃ d x, g = kcell d (some x) ∧ lvX x = p.2.val + 2 := by
  unfold oweOf at h
  cases hp : payX p.1 p.2 with
  | none => rw [hp] at h; exact absurd h (Nat.lt_irrefl 0)
  | some v =>
    obtain ⟨a, x⟩ := v
    rw [hp] at h
    dsimp only at h
    rw [tallyAt_apply] at h
    by_cases e : g = kcell (peer a c) (some x) ∧ u = ()
    · exact ⟨_, _, e.1, payX_lv _ _ _ _ hp⟩
    · rw [if_neg e] at h; exact absurd h (Nat.lt_irrefl 0)

theorem owe_pos {c : Dev nD} {g : GSem nD τ sig} {u : Unit} : ∀ {l : List (Fin 6 × Fin 10)}, 0 < owe c l g u →
    ∃ p ∈ l, ∃ d x, g = kcell d (some x) ∧ lvX x = p.2.val + 2
  | [], h => absurd h (Nat.lt_irrefl 0)
  | p :: l, h => by
    unfold owe at h
    rw [Pi.add_apply, Finsupp.add_apply] at h
    rcases Nat.eq_zero_or_pos (owe c l g u) with h0 | h0
    · rw [h0, Nat.zero_add] at h; exact ⟨p, List.mem_cons_self .., oweOf_pos h⟩
    · obtain ⟨q, hq, r⟩ := owe_pos h0; exact ⟨q, List.mem_cons_of_mem _ hq, r⟩

/-- Waiting on a copy's cell below every cell the remaining steps pay. -/
theorem mayWait_x (c : Dev nD) (x : XK) (l : List (Fin 6 × Fin 10)) (h : ∀ p ∈ l, lvX x < p.2.val + 2) :
    (levAts L lv : sProp 𝕄) ⊢ MayWait (c : Thread nD τ) (csem (some x)) () (owe c l) :=
  MayOwe.of_cut (L := L) (lev := lv) (lvX x)
    (fun p hp => by rw [Finset.mem_singleton.mp hp, L_tc]; exact Finset.mem_singleton_self _)
    (fun g u hg => by obtain ⟨p, -, d, y, rfl, -⟩ := owe_pos hg; exact Finset.mem_singleton_self _)
    (fun p hp => by rw [Finset.mem_singleton.mp hp]; exact (lv_kcell c (some x) ()).le)
    (fun g u hg => by obtain ⟨p, hp, d, y, rfl, e⟩ := owe_pos hg; rw [lv_kcell]; show _ < lvX y; rw [e]; exact h p hp)

theorem mayWait_bar (c : Dev nD) (l : List (Fin 6 × Fin 10)) :
    (levAts L lv : sProp 𝕄) ⊢ MayWait (c : Thread nD τ) (.reg barS) () (owe c l) :=
  MayOwe.of_cut (L := L) (lev := lv) 1
    (fun p hp => by rw [Finset.mem_singleton.mp hp, L_tc]; exact Finset.mem_singleton_self _)
    (fun g u hg => by obtain ⟨p, -, d, y, rfl, -⟩ := owe_pos hg; exact Finset.mem_singleton_self _)
    (fun p hp => by rw [Finset.mem_singleton.mp hp]; exact (lv_kcell c none ()).le)
    (fun g u hg => by obtain ⟨p, hp, d, y, rfl, e⟩ := owe_pos hg; rw [lv_kcell]; show _ < lvX y; rw [e]; omega)

theorem O₀_pos {c : Dev nD} {g : GSem nD τ sig} {u : Unit} (h : 0 < O₀ c g u) : ∃ d x, g = kcell d x ∧ 0 < lv g u := by
  unfold O₀ at h
  rw [Pi.add_apply, Finsupp.add_apply, Pi.add_apply, Finsupp.add_apply, Pi.add_apply, Finsupp.add_apply,
    tallyAt_apply, tallyAt_apply, tallyAt_apply] at h
  by_cases h2 : g = kcell (peer 2 c) none ∧ u = ()
  · exact ⟨_, _, h2.1, by rw [h2.1, lv_kcell]; exact Nat.one_pos⟩
  by_cases h1 : g = kcell (peer 1 c) none ∧ u = ()
  · exact ⟨_, _, h1.1, by rw [h1.1, lv_kcell]; exact Nat.one_pos⟩
  by_cases h0 : g = kcell (peer 0 c) none ∧ u = ()
  · exact ⟨_, _, h0.1, by rw [h0.1, lv_kcell]; exact Nat.one_pos⟩
  rw [if_neg h0, if_neg h1, if_neg h2, Nat.add_zero] at h
  obtain ⟨p, -, d, x, e, e'⟩ := owe_pos (l := all) h
  exact ⟨d, some x, e, by rw [e, lv_kcell]; show 0 < lvX x; omega⟩

/-- The staging buffers' waits, at launch and at the end. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by obtain ⟨d, x, rfl, -⟩ := O₀_pos hg; exact Finset.mem_singleton_self _)
      (fun p hp => by
        rw [Finset.mem_singleton.mp hp]; unfold lv gk
        rw [if_pos rfl]; unfold dec; dsimp only; rw [dif_pos hq])
      (fun g u hg => by obtain ⟨d, x, -, e⟩ := O₀_pos hg; exact e)
  · rw [MayWait_zero]; iintro -; iempintro

end Cert.KernelIdeal.Cube

end
-- ==== Proof.Ideal.Steps.lean ====
/- One lemma per kind of step, for every device, column group and step number. -/
module

public import proofs.«01_k».proof.Proof.Ideal.Sched

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)

abbrev 𝒱₀ : Variants := Variants.none

/-- Running a program on device `c`. -/
abbrev run (c : Dev nD) (p : P (F := F)) (Q : PUnit → sProp 𝕄) : sProp 𝕄 :=
  wp frame (wpE (defs₀ (F := F)) 𝒱₀ (c : Thread nD τ) none) Set.univ p Q

/-! ## What everyone knows -/

variable (K : Dev nD × CK → ℕ)

/-- Every cell's invariant, every cell open at its round, the levels. -/
def ctx : sProp 𝕄 :=
  iprop((bigSep Finset.univ fun y : Dev nD × CK => cellInv ER (Rd X W) (K y) (kcell y.1 y.2))
    ∗ (bigSep Finset.univ fun y : Dev nD × CK => reached ER (kcell y.1 y.2) 0) ∗ levAts L lv)

instance ctx_persistent : BI.Persistent (ctx X W K) := by unfold ctx; infer_instance

theorem ctx_inv (c : Dev nD) (x : CK) : ctx X W K ⊢ cellInv ER (Rd X W) (K (c, x)) (kcell c x) := by
  have h : (bigSep Finset.univ fun y : Dev nD × CK => (cellInv ER (Rd X W) (K y) (kcell y.1 y.2) : sProp 𝕄)) ⊢ cellInv ER (Rd X W) (K (c, x)) (kcell c x) :=
    bigSep_elim (Finset.mem_univ (c, x))
  unfold ctx
  iintro ⟨H, -, -⟩
  iapply h $$ H
theorem ctx_reached (c : Dev nD) (x : CK) : ctx X W K ⊢ reached ER (kcell c x) 0 := by
  have h : (bigSep Finset.univ fun y : Dev nD × CK => (reached ER (kcell y.1 y.2) 0 : sProp 𝕄)) ⊢ reached ER (kcell c x) 0 :=
    bigSep_elim (Finset.mem_univ (c, x))
  unfold ctx
  iintro ⟨-, H, -⟩
  iapply h $$ H
theorem ctx_lev : ctx X W K ⊢ levAts L lv := by unfold ctx; iintro ⟨-, -, H⟩; iexact H

/-- What device `c` still owes while the steps `l` remain. -/
def Owes (c : Dev nD) (l : List (Fin 6 × Fin 10)) : sProp 𝕄 := iprop(∃ W', owes (c : Thread nD τ) (owe c l) W')

/-! ## A wait and a copy -/

section Ops

variable {α : Type} (c : Dev nD)

/-- The wait on a copy's cell: the payload, and the cell's counter back at zero. -/
theorem wp_landed {Q : α → sProp 𝕄} (x : XK) {sem : DmaSem sig} (hs : csem (some x) = .dma sem) {sp sp' : Space} {s s' : Shape} {e e' : EltTy}
    {src : Memref sig .tc sp s e} {dst : Memref sig .tc sp' s' e'} {h₁ : src.view.WordExact} {h₂ : dst.view.WordExact}
    (hN : dst.view.dmaCredit = amt x) {k : PUnit → Prog (TpuEff nD τ sig (Elt F) Λ₀ .tc) α} (l : List (Fin 6 × Fin 10))
    (hl : ∀ p ∈ l, lvX x < p.2.val + 2) :
    iprop(ctx X W K ∗ cred (tallyAt (kcell c (some x)) () (amt x)) ∗ atPos ER (kcell c (some x)) 0 ∅ 0 ∗ Owes (F := F) c l)
      ⊢ iprop(((semVal (kcell c (some x)) 0 ∗ pay X W c (some x) 0 ∗ Owes (F := F) c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  unfold Owes
  iintro ⟨#HC, Hcr, Hat, ⟨%W', HO⟩⟩ Hk
  have hc : kcell c (some x) = ((c : Thread nD τ), SemLoc.dma sem) := by unfold kcell; rw [hs]
  have he : 0 + dst.view.dmaCredit = (Rd (F := F) X W).expect ((c : Thread nD τ), SemLoc.dma sem) 0 := by
    rw [← hc, expect_x, hN, Nat.zero_add]
  ihave #HI := (ctx_inv X W K c (some x)) $$ HC
  ihave #Hlev := (ctx_lev X W K) $$ HC
  ihave #Hmw := (mayWait_x (F := F) c x l hl) $$ Hlev
  iapply (Rounds.wp_wait_rest_token 𝒱₀ ER (Rd X W) (c : Thread nD τ) none (κ := K (c, some x))
      (wpE_waitDma2_eq 𝒱₀ (c : Thread nD τ) none Set.univ) (Set.mem_univ _) () (O := owe c l) (W := W') (R := 0) (m := 0) (T := ∅) he) $$ [Hcr HO Hat]
  · rw [← hc, hN]
    isplitr; · iexact HI
    isplitl [Hcr]; · iexact Hcr
    isplitl [HO]; · iexact HO
    isplitr; · rw [← hs]; iexact Hmw
    iexact Hat
  rw [← hc, rest_x]
  iintro ⟨HO, Hat, -, Hpay⟩
  imod (Rounds.cell_close ER (Rd X W) (Set.mem_univ (K (c, some x))) (fun h => h) (R := 0 + 1) (duties_later X W (kcell c (some x)))) $$ [Hat] with Hz
  · isplitr; · iexact HI
    iexact Hat
  iapply Hk
  isplitl [Hz]; · iexact Hz
  isplitl [Hpay]; · iexact Hpay
  iexists _; iexact HO

/-- A copy to device `n`, the partner across an axis: the source at share `q` goes with it, the destination is given up. -/
theorem wp_copy {Q : α → sProp 𝕄} (n n' : Dev nD) (hn : n = n') (xs xr : XK) {sS sR : DmaSem sig} (hs : csem (some xs) = .dma sS) (hr : csem (some xr) = .dma sR)
    {s : Shape} {e : EltTy} {src : Memref sig .tc .vmem s e} {dst : Memref sig .tc .vmem s e}
    {hsc : (dst : Memref sig (Dev.tc n : Thread nD τ).2.kind .vmem s e).view.ref.isScScratch = false}
    {h₁ : src.view.WordExact} {h₂ : dst.view.WordExact}
    {hsem : DmaTarget.Typed .vmem (.dma sR) (.remote (Dev.tc n : Thread nD τ) (dst : Memref sig (Dev.tc n : Thread nD τ).2.kind .vmem s e) (.dma sS) hsc)}
    {k : PUnit → Prog (TpuEff nD τ sig (Elt F) Λ₀ .tc) α} {q : PosShare TreeShare} {V : s.Idx → Elt F e}
    (hNs : dst.view.dmaCredit = amt xs) (hNr : dst.view.dmaCredit = amt xr)
    (hp₁ : held (c : Thread nD τ) src Finset.univ q V ⊢ pay X W c (some xs) 0)
    (hp₂ : held (n' : Thread nD τ) dst Finset.univ fullShare V ⊢ pay X W n' (some xr) 0)
    (p : Fin 6 × Fin 10) (l : List (Fin 6 × Fin 10)) (ho : oweOf c p = tallyAt (kcell n' (some xr)) () (amt xr)) :
    iprop(ctx X W K ∗ held (c : Thread nD τ) src Finset.univ q V ∗ heldAny (Val := Elt F) (n' : Thread nD τ) dst Finset.univ fullShare
        ∗ dutyTok ER (kcell c (some xs)) 0 0 ∗ dutyTok ER (kcell n' (some xr)) 0 0 ∗ Owes (F := F) c (p :: l))
      ⊢ iprop(((cred (tallyAt (kcell c (some xs)) () (amt xs)) ∗ Owes (F := F) c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h₁ h₂ hsem) k) Q) := by
  subst hn
  unfold Owes heldAny held
  iintro ⟨#HC, ⟨%fs, %hfs, Hs⟩, ⟨%Y, ⟨%fd, %hfd, Hd⟩⟩, Hts, Htr, ⟨%W', HO⟩⟩ Hk
  have hcs : kcell c (some xs) = ((c : Thread nD τ), SemLoc.dma sS) := by unfold kcell; rw [hs]
  have hcr : kcell n (some xr) = ((n : Thread nD τ), SemLoc.dma sR) := by unfold kcell; rw [hr]
  have hV : src.view.read (Elt F) fs = V := funext fun i => hfs i (Finset.mem_univ i)
  ihave #HI₁ := (ctx_inv X W K c (some xs)) $$ HC
  ihave #HI₂ := (ctx_inv X W K n (some xr)) $$ HC
  ihave #HR₁ := (ctx_reached X W K c (some xs)) $$ HC
  ihave #HR₂ := (ctx_reached X W K n (some xr)) $$ HC
  iapply (Rounds.wp_send_pointsTo 𝒱₀ ER (Rd X W) (c : Thread nD τ) none (c' := (n : Thread nD τ)) (src := src) (dst := dst) (sS := .dma sS) (sem := .dma sR)
    (κ₁ := K (c, some xs)) (κ₂ := K (n, some xr))
    (r₁ := 0) (r₂ := 0) (d₁ := 0) (d₂ := 0) (fs := fs) (fd := fd) (q := q)
    (by rw [← hcs, duties_x]; exact Finset.mem_singleton_self _) (by rw [← hcr, duties_x]; exact Finset.mem_singleton_self _)
    () () (amt xs) hNs (by rw [← hcs]; exact amount_x X W c xs 0) (by rw [← hcr, amount_x, ← hNr, hNs]) (owe c l)
    (O₀ := owe c (p :: l)) (by rw [← hcr, ← hNs, hNr]; exact congrArg (owe c l + ·) ho) (W := W')
    (by
      rw [← hcs, payload_eq]
      refine BIBase.Entails.trans ?_ hp₁
      unfold held
      iintro H; iexists fs; isplitr; · ipureintro; exact hfs
      iexact H)
    (by
      rw [← hcr, payload_eq]
      refine BIBase.Entails.trans ?_ hp₂
      unfold held
      iintro H; iexists _; isplitr
      · ipureintro; intro i _
        rw [← hfs i (Finset.mem_univ i)]
        exact View.read_write_of_mem (v := dst.view) fd (src.view.read (Elt F) fs) (Finset.mem_univ i)
      iexact H)) $$ [Hs Hd Hts Htr HO]
  · rw [← hcs, ← hcr]
    isplitr; · iexact HI₁
    isplitr; · iexact HI₂
    isplitl [Hs]; · iexact Hs
    isplitl [Hd]; · iexact Hd
    isplitl [HO]; · iexact HO
    isplitl [Hts]; · iexact Hts
    isplitr; · iexact HR₁
    isplitl [Htr]; · iexact Htr
    iexact HR₂
  iintro ⟨Hc, HO⟩
  iapply Hk
  rw [← hcs]
  isplitl [Hc]; · iexact Hc
  iexists _; iexact HO

end Ops

end Cert.KernelIdeal.Cube

end
-- ==== Proof.Ideal.Macro.lean ====
/- What each of the kernel's moves does to what a device holds, for every device, column group and step number. -/
module

public import proofs.«01_k».proof.Proof.Ideal.Steps
public import proofs.«01_k».proof.Proof.Ideal.Values

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)
variable (K : Dev nD × CK → ℕ)

/-! ## States -/

/-- A device's place at its cell `x`: at its one round, nothing taken. -/
abbrev at0 (c : Dev nD) (x : XK) : sProp 𝕄 := atPos ER (kcell c (some x)) 0 ∅ 0
/-- The right to complete cell `x` of device `c`. -/
abbrev tok (c : Dev nD) (x : XK) : sProp 𝕄 := dutyTok ER (kcell c (some x)) 0 0
/-- Credit on one's own cell `x`. -/
abbrev crd (c : Dev nD) (x : XK) : sProp 𝕄 := cred (tallyAt (kcell c (some x)) () (amt x))
/-- Cell `x` done with. -/
abbrev done (c : Dev nD) (x : XK) : sProp 𝕄 := semVal (kcell c (some x)) 0

/-- Reduce-scatter step `k` of group `g`: not begun, sent, received, returned. -/
def rsSt (c : Dev nD) (g : Fin 6) (k : Fin 3) : Fin 4 → sProp 𝕄
  | 0 => iprop(tok c (0, g, k) ∗ tok (peer (ax g k) c) (1, g, k) ∗ heldAny (Val := Elt F) (c : Thread nD τ) (sendM g k) Finset.univ fullShare
      ∗ heldAny (Val := Elt F) (peer (ax g k) c : Thread nD τ) (recvM g k) Finset.univ fullShare
      ∗ at0 c (0, g, k) ∗ at0 c (1, g, k) ∗ crd c (1, g, k))
  | 1 => iprop(crd c (0, g, k) ∗ at0 c (0, g, k) ∗ at0 c (1, g, k) ∗ crd c (1, g, k))
  | 2 => iprop(crd c (0, g, k) ∗ at0 c (0, g, k) ∗ done c (1, g, k) ∗ heldAny (Val := Elt F) (c : Thread nD τ) (recvM g k) Finset.univ fullShare)
  | 3 => iprop(done c (0, g, k) ∗ done c (1, g, k) ∗ heldAny (Val := Elt F) (c : Thread nD τ) (sendM g k) Finset.univ fullShare
      ∗ heldAny (Val := Elt F) (c : Thread nD τ) (recvM g k) Finset.univ fullShare)

/-- Gathering step `j` of group `g`: not begun, sent, received, returned. -/
def agSt (c : Dev nD) (g : Fin 6) (j : Fin 3) : Fin 4 → sProp 𝕄
  | 0 => iprop(tok c (2, g, j) ∗ tok (peer (ax g j.rev) c) (3, g, j)
      ∗ heldAny (Val := Elt F) (peer (ax g j.rev) c : Thread nD τ) (agM g) (agSeg g j.rev.succ c) fullShare
      ∗ at0 c (2, g, j) ∗ at0 c (3, g, j) ∗ crd c (3, g, j))
  | 1 => iprop(crd c (2, g, j) ∗ at0 c (2, g, j) ∗ at0 c (3, g, j) ∗ crd c (3, g, j))
  | 2 => iprop(crd c (2, g, j) ∗ at0 c (2, g, j) ∗ done c (3, g, j))
  | 3 => iprop(done c (2, g, j) ∗ done c (3, g, j))

/-- The gathering buffer's rows `S` as gathered. -/
abbrev agH (c : Dev nD) (g : Fin 6) (S : Finset (agShape g).Idx) (q : PosShare TreeShare) : sProp 𝕄 :=
  held (c : Thread nD τ) (agM g) S q (agx X W g)

section Moves

variable (out : Memref sig .tc .vmem S2048x2048 .f32) (c : Dev nD)

/-- The elements `S` of the result, reading as `V` at `U`. -/
def outH (S U : Finset OutIdx) (V : OutIdx → Elt F .f32) : sProp 𝕄 :=
  iprop(∃ Y, ⌜∀ i ∈ U, Y i = V i⌝ ∗ held (c : Thread nD τ) out S fullShare Y)

theorem overlay_full (g k) (Y : (rsShape g k).Idx → Elt F .bf16) (w : (rsShape g k).Idx → Elt F .bf16) (i : (rsShape g k).Idx) :
    (Rect.unit (s := rsShape g k) ![0, 0] (rsShape g k).size (inb0 g k)).overlay Y w i = w i := by
  have := Rect.overlay_emb (r := Rect.unit (s := rsShape g k) ![0, 0] (rsShape g k).size (inb0 g k)) Y w i
  rw [full_emb] at this; exact this

theorem wp_startRs {Q : PUnit → sProp 𝕄} (g : Fin 6) (k : Fin 3) {S U : Finset OutIdx} (hS : outSeg g k.succ (peer (ax g k) c) ⊆ S)
    (hU : outSeg g k.succ (peer (ax g k) c) ⊆ U) {V : Vec F S2048x2048 .f32} (hV : V = acc X W g k.castSucc c)
    (p : Fin 6 × Fin 10) (l : List (Fin 6 × Fin 10)) (ho : payX p.1 p.2 = some (ax g k, (1, g, k))) :
    iprop(ctx X W K ∗ outH out c S U V ∗ rsSt (F := F) c g k 0 ∗ Owes (F := F) c (p :: l)
        ∗ ((outH out c S U V ∗ rsSt (F := F) c g k 1 ∗ Owes (F := F) c l) -∗ Q ⟨⟩))
      ⊢ run c (startRs out c g k) Q := by
  subst hV
  unfold outH rsSt heldAny
  iintro ⟨#HC, ⟨%Y, %hY, Hout⟩, ⟨Ht1, Ht2, ⟨%Z, Hsend⟩, ⟨%Z', Hrecv⟩, Ha1, Ha2, Hc2⟩, HO, HQ⟩
  simp only [startRs, Prog.lift, Prog.bind_op, Prog.bind_ret]
  iapply (held_load 𝒱₀ none Set.univ ((send_set g k c).le.trans hS)) $$ Hout; iintro Hout
  iapply (held_load 𝒱₀ none Set.univ (Finset.subset_univ _)) $$ Hsend; iintro Hsend
  iapply (held_store 𝒱₀ none Set.univ (Finset.subset_univ _)) $$ Hsend; iintro Hsend
  have hs : ∀ i ∈ (Finset.univ : Finset (rsShape g k).Idx),
      (Rect.unit (s := rsShape g k) ![0, 0] (rsShape g k).size (inb0 g k)).overlay Z (narrow (rsShape g k) fun j : (sendR g k c).shape.Idx => Y ((sendR g k c).emb j)) i
        = rsVal X W g k (peer (ax g k) c) i := fun i _ => (overlay_full g k _ _ i).trans
    (narrow_send X W g k c _ (fun j => hY _ (hU (send_set g k c ▸ emb_mem (sendR g k c) j))) i)
  dsimp only at hs
  ihave Hsend := (held_congr hs) $$ Hsend
  iapply (wp_copy X W K c _ (peer (ax g k) c) (devRs_eq g k c) (0, g, k) (1, g, k) rfl rfl rfl rfl
    held_any Entails.rfl p l (by unfold oweOf; rw [ho])) $$ [Hsend Hrecv Ht1 Ht2 HO]
  · isplitr; · iexact HC
    isplitl [Hsend]; · iexact Hsend
    isplitl [Hrecv]; · iapply held_any $$ Hrecv
    isplitl [Ht1]; · iexact Ht1
    isplitl [Ht2]; · iexact Ht2
    iexact HO
  iintro ⟨Hc1, HO⟩
  rw [wp_ret]; imodintro
  iapply HQ
  isplitl [Hout]
  · iexists Y; isplitr; · ipureintro; exact hY
    iexact Hout
  isplitl [Hc1 Ha1 Ha2 Hc2]
  · isplitl [Hc1]; · iexact Hc1
    isplitl [Ha1]; · iexact Ha1
    isplitl [Ha2]; · iexact Ha2
    iexact Hc2
  iexact HO

theorem wp_rsAdd {Q : PUnit → sProp 𝕄} (g : Fin 6) (k : Fin 3) {S U : Finset OutIdx} (hS : outSeg g k.succ c ⊆ S)
    (hU : outSeg g k.succ c ⊆ U) {V : Vec F S2048x2048 .f32} (hV : V = acc X W g k.castSucc c) {U' : Finset OutIdx} (hU' : U' = outSeg g k.succ c)
    {V' : Vec F S2048x2048 .f32} (hV' : V' = acc X W g k.succ c) (l : List (Fin 6 × Fin 10)) (hl : ∀ p ∈ l, k.val < p.2.val) :
    iprop(ctx X W K ∗ outH out c S U V ∗ rsSt (F := F) c g k 1 ∗ Owes (F := F) c l
        ∗ ((outH out c S U' V' ∗ rsSt (F := F) c g k 2 ∗ Owes (F := F) c l) -∗ Q ⟨⟩))
      ⊢ run c (rsAdd out c g k) Q := by
  subst hV hU' hV'
  unfold outH rsSt
  iintro ⟨#HC, ⟨%Y, %hY, Hout⟩, ⟨Hc1, Ha1, Ha2, Hc2⟩, HO, HQ⟩
  simp only [rsAdd, Prog.lift, Prog.bind_op, Prog.bind_ret]
  iapply (wp_landed X W K c (1, g, k) rfl rfl l (fun p hp => by have := hl p hp; show 2 + k.val < _; omega)) $$ [Hc2 Ha2 HO]
  · isplitr; · iexact HC
    isplitl [Hc2]; · iexact Hc2
    isplitl [Ha2]; · iexact Ha2
    iexact HO
  iintro ⟨Hd, Hrecv, HO⟩
  unfold pay
  iapply (held_load 𝒱₀ none Set.univ ((keep_set g k c).le.trans hS)) $$ Hout; iintro Hout
  iapply (held_load 𝒱₀ none Set.univ (Finset.subset_univ _)) $$ Hrecv; iintro Hrecv
  iapply (held_load 𝒱₀ none Set.univ ((keep_set g k c).le.trans hS)) $$ Hout; iintro Hout
  iapply (held_store 𝒱₀ none Set.univ ((keep_set g k c).le.trans hS)) $$ Hout; iintro Hout
  rw [wp_ret]; imodintro
  iapply HQ
  isplitl [Hout]
  · iexists (keepR g k c).overlay Y (addIn (rsShape g k) (fun j : (keepR g k c).shape.Idx => Y ((keepR g k c).emb j))
      (fun j => rsVal X W g k c ((Rect.unit (s := rsShape g k) ![0, 0] (rsShape g k).size (inb0 g k)).emb j)))
    isplitr [Hout]
    · ipureintro
      intro i hi
      obtain ⟨j, rfl⟩ := of_mem ((keep_set g k c).symm ▸ hi)
      refine (Rect.overlay_emb _ _ _ j).trans ?_
      refine Eq.trans (congrArg (fun r => addIn (rsShape g k) _ r j) ?_) (addIn_keep X W g k c _ (fun j => hY _ (hU (keep_set g k c ▸ emb_mem (keepR g k c) j))) j)
      funext j'
      exact congrArg (rsVal X W g k c) (full_emb g k j')
    iexact Hout
  isplitl [Hc1 Ha1 Hd Hrecv]
  · isplitl [Hc1]; · iexact Hc1
    isplitl [Ha1]; · iexact Ha1
    isplitl [Hd]; · iexact Hd
    iapply held_any $$ Hrecv
  iexact HO

theorem wp_gateOwn {Q : PUnit → sProp 𝕄} (g : Fin 6) {S : Finset OutIdx} (hS : outSeg g 3 c ⊆ S) :
    iprop(outH out c S (outSeg g 3 c) (acc X W g 3 c) ∗ heldAny (Val := Elt F) (c : Thread nD τ) (agM g) (agSeg g 3 c) fullShare
        ∗ ((outH out c S (outSeg g 3 c) (final X W g c) ∗ agH X W c g (agSeg g 3 c) fullShare) -∗ Q ⟨⟩))
      ⊢ run c (gateOwn out c g) Q := by
  unfold outH heldAny
  iintro ⟨⟨%Y, %hY, Hout⟩, ⟨%Z, Hag⟩, HQ⟩
  have hv : ∀ j, Y ((keepR g 2 c).emb j) = acc X W g 3 c ((keepR g 2 c).emb j) := fun j => hY _ (keep_set g 2 c ▸ emb_mem (keepR g 2 c) j)
  simp only [gateOwn, Prog.lift, Prog.bind_op, Prog.bind_ret]
  iapply (held_load 𝒱₀ none Set.univ ((keep_set g 2 c).le.trans hS)) $$ Hout; iintro Hout
  iapply (held_load 𝒱₀ none Set.univ ((keep_set g 2 c).le.trans hS)) $$ Hout; iintro Hout
  iapply (held_store 𝒱₀ none Set.univ ((keep_set g 2 c).le.trans hS)) $$ Hout; iintro Hout
  iapply (held_load 𝒱₀ none Set.univ (own_set g c).le) $$ Hag; iintro Hag
  iapply (held_store 𝒱₀ none Set.univ (own_set g c).le) $$ Hag; iintro Hag
  rw [wp_ret]; imodintro
  iapply HQ
  isplitl [Hout]
  · iexists (keepR g 2 c).overlay Y (gate (rsShape g 2) fun j : (keepR g 2 c).shape.Idx => Y ((keepR g 2 c).emb j))
    isplitr [Hout]
    · ipureintro
      intro i hi
      have ho := (mem_outSeg.mp hi).1
      obtain ⟨j, rfl⟩ := of_mem ((keep_set g 2 c).symm ▸ hi)
      refine (Rect.overlay_emb _ _ _ j).trans ((gate_own X W g c _ hv j).trans ?_)
      exact (if_pos ho).symm
    iexact Hout
  have hs : ∀ i ∈ agSeg g 3 c, (ownR g c).overlay Z (gateN (rsShape g 2) fun j : (keepR g 2 c).shape.Idx => Y ((keepR g 2 c).emb j)) i = agx X W g i := by
    intro i hi
    obtain ⟨j, rfl⟩ := of_mem ((own_set g c).symm ▸ hi)
    exact (Rect.overlay_emb _ _ _ j).trans (gateN_own X W g c _ hv j)
  iapply (held_congr hs) $$ Hag

theorem wp_startAg {Q : PUnit → sProp 𝕄} (g : Fin 6) (j : Fin 3) {T : Finset (agShape g).Idx} (hT : T = agSeg g j.rev.succ c)
    {q : PosShare TreeShare} (hq : q = sh j) (p : Fin 6 × Fin 10) (l : List (Fin 6 × Fin 10)) (ho : payX p.1 p.2 = some (ax g j.rev, (3, g, j))) :
    iprop(ctx X W K ∗ agH X W c g T q ∗ agSt (F := F) c g j 0 ∗ Owes (F := F) c (p :: l)
        ∗ ((agSt (F := F) c g j 1 ∗ Owes (F := F) c l) -∗ Q ⟨⟩))
      ⊢ run c (startAg c g j) Q := by
  subst hT hq
  unfold agSt heldAny
  iintro ⟨#HC, Hs, ⟨Ht1, Ht2, ⟨%Z, Hd⟩, Ha1, Ha2, Hc2⟩, HO, HQ⟩
  simp only [startAg, Prog.lift]
  ihave Hs := ((Entails.of_eq (by rw [src_set])).trans (held_slice (c := (c : Thread nD τ)) (m := agM g) (srcR g j c) (fun _ => rfl) (sh j) (agx X W g))) $$ Hs
  ihave Hd := ((Entails.of_eq (by rw [src_set])).trans (held_slice (c := (peer (ax g j.rev) c : Thread nD τ)) (m := agM g) (srcR g j c) (fun _ => rfl) fullShare Z)) $$ Hd
  iapply (wp_copy X W K c _ (peer (ax g j.rev) c) (devAg_eq g j c) (2, g, j) (3, g, j) rfl rfl rfl rfl
    ((held_of_slice (c := (c : Thread nD τ)) (m := agM g) (srcR g j c) (fun _ => rfl) (sh j) (agx X W g)).trans (Entails.of_eq (by rw [src_set]; rfl)))
    ((held_of_slice (c := (peer (ax g j.rev) c : Thread nD τ)) (m := agM g) (srcR g j c) (fun _ => rfl) fullShare (agx X W g)).trans
      (Entails.of_eq (by
        rw [src_set]
        show _ = held _ _ (agSeg g j.rev.succ (peer (ax g j.rev) (peer (ax g j.rev) c))) _ _
        rw [peer_peer]))) p l (by unfold oweOf; rw [ho])) $$ [Hs Hd Ht1 Ht2 HO]
  · isplitr; · iexact HC
    isplitl [Hs]; · iexact Hs
    isplitl [Hd]; · iapply held_any $$ Hd
    isplitl [Ht1]; · iexact Ht1
    isplitl [Ht2]; · iexact Ht2
    iexact HO
  iintro ⟨Hc1, HO⟩
  rw [wp_ret]; imodintro
  iapply HQ
  isplitl [Hc1 Ha1 Ha2 Hc2]
  · isplitl [Hc1]; · iexact Hc1
    isplitl [Ha1]; · iexact Ha1
    isplitl [Ha2]; · iexact Ha2
    iexact Hc2
  iexact HO

theorem wp_agWait {Q : PUnit → sProp 𝕄} (g : Fin 6) (j : Fin 3) {T : Finset (agShape g).Idx}
    (hT : T = agSeg g j.rev.succ (peer (ax g j.rev) c)) (l : List (Fin 6 × Fin 10)) (hl : ∀ p ∈ l, 3 + j.val < p.2.val) :
    iprop(ctx X W K ∗ agSt (F := F) c g j 1 ∗ Owes (F := F) c l
        ∗ ((agH X W c g T fullShare ∗ agSt (F := F) c g j 2 ∗ Owes (F := F) c l) -∗ Q ⟨⟩))
      ⊢ run c (agWait c g j) Q := by
  subst hT
  unfold agSt
  iintro ⟨#HC, ⟨Hc1, Ha1, Ha2, Hc2⟩, HO, HQ⟩
  simp only [agWait, Prog.lift]
  iapply (wp_landed X W K c (3, g, j) rfl rfl l (fun p hp => by have := hl p hp; show 5 + j.val < _; omega)) $$ [Hc2 Ha2 HO]
  · isplitr; · iexact HC
    isplitl [Hc2]; · iexact Hc2
    isplitl [Ha2]; · iexact Ha2
    iexact HO
  iintro ⟨Hd, Hag, HO⟩
  unfold pay
  rw [wp_ret]; imodintro
  iapply HQ
  isplitl [Hag]; · iexact Hag
  isplitl [Hc1 Ha1 Hd]
  · isplitl [Hc1]; · iexact Hc1
    isplitl [Ha1]; · iexact Ha1
    iexact Hd
  iexact HO

theorem wp_agOut {Q : PUnit → sProp 𝕄} (g : Fin 6) (j : Fin 3) {S : Finset OutIdx} {T : Finset (agShape g).Idx} {q : PosShare TreeShare}
    {U U' : Finset OutIdx} (hU : U = outSeg g j.rev.succ c) (hU' : U' = outSeg g j.rev.castSucc c) (hS : outSeg g j.rev.castSucc c ⊆ S) (hT : agSeg g j.rev.succ (peer (ax g j.rev) c) ⊆ T) :
    iprop(outH out c S U (final X W g c) ∗ agH X W c g T q
        ∗ ((outH out c S U' (final X W g c) ∗ agH X W c g T q) -∗ Q ⟨⟩))
      ⊢ run c (agOut out c g j) Q := by
  subst hU hU'
  unfold outH
  iintro ⟨⟨%Y, %hY, Hout⟩, Hag, HQ⟩
  have hS' : (inOutR g j c).set ⊆ S := by
    rw [inOut_set]; exact Finset.Subset.trans (by rw [outSeg_half]; exact Finset.subset_union_right) hS
  simp only [agOut, Prog.lift, Prog.bind_op, Prog.bind_ret]
  iapply (held_load 𝒱₀ none Set.univ ((in_set g j c).le.trans hT)) $$ Hag; iintro Hag
  iapply (held_load 𝒱₀ none Set.univ hS') $$ Hout; iintro Hout
  iapply (held_store 𝒱₀ none Set.univ hS') $$ Hout; iintro Hout
  rw [wp_ret]; imodintro
  iapply HQ
  isplitl [Hout]
  · iexists (inOutR g j c).overlay Y (widen (agPart g j) fun k : (inR g j c).shape.Idx => agx X W g ((inR g j c).emb k))
    isplitr [Hout]
    · ipureintro
      intro i hi
      by_cases hm : i ∈ (inOutR g j c).set
      · have hn := not_own_of_in (mem_outSeg.mp ((inOut_set g j c) ▸ hm)).1
        obtain ⟨k, rfl⟩ := of_mem hm
        exact (Rect.overlay_emb _ _ _ k).trans (widen_in X W g j c k hn)
      · refine (Rect.overlay_of_not_mem _ _ _ hm).trans (hY i ?_)
        rw [outSeg_half, Finset.mem_union] at hi
        exact hi.resolve_right (inOut_set g j c ▸ hm)
    iexact Hout
  iexact Hag

theorem wp_finWait {Q : PUnit → sProp 𝕄} (g : Fin 6) (k : Fin 3) {T : Finset (agShape g).Idx} (hT : T = agSeg g k.rev.succ c) {q : PosShare TreeShare} (hq : q = sh k)
    (l : List (Fin 6 × Fin 10)) :
    iprop(ctx X W K ∗ rsSt (F := F) c g k 2 ∗ agSt (F := F) c g k 2 ∗ Owes (F := F) c l
        ∗ ((agH X W c g T q ∗ rsSt (F := F) c g k 3 ∗ agSt (F := F) c g k 3 ∗ Owes (F := F) c l) -∗ Q ⟨⟩))
      ⊢ run c (finWait c g k) Q := by
  subst hT hq
  unfold agSt rsSt
  iintro ⟨#HC, ⟨Hc1, Ha1, Hd1, Hr⟩, ⟨Hc2, Ha2, Hd2⟩, HO, HQ⟩
  simp only [finWait, Prog.lift, Prog.bind_op, Prog.bind_ret]
  iapply (wp_landed X W K c (0, g, k) rfl (send_credit g k) l (fun p hp => Nat.succ_pos _)) $$ [Hc1 Ha1 HO]
  · isplitr; · iexact HC
    isplitl [Hc1]; · iexact Hc1
    isplitl [Ha1]; · iexact Ha1
    iexact HO
  iintro ⟨He1, Hs, HO⟩
  iapply (wp_landed X W K c (2, g, k) rfl rfl l (fun p hp => Nat.succ_pos _)) $$ [Hc2 Ha2 HO]
  · isplitr; · iexact HC
    isplitl [Hc2]; · iexact Hc2
    isplitl [Ha2]; · iexact Ha2
    iexact HO
  iintro ⟨He2, Hag, HO⟩
  unfold pay
  rw [wp_ret]; imodintro
  iapply HQ
  isplitl [Hag]; · iexact Hag
  isplitl [He1 Hd1 Hs Hr]
  · isplitl [He1]; · iexact He1
    isplitl [Hd1]; · iexact Hd1
    isplitl [Hs]; · iexact Hs
    iexact Hr
  isplitl [He2 Hd2]
  · isplitl [He2]; · iexact He2
    iexact Hd2
  iexact HO

end Moves

end Cert.KernelIdeal.Cube

end
-- ==== Proof.Ideal.State.lean ====
/- What a device holds of one column group after each of its ten steps, and that each step takes it on. -/
module

public import proofs.«01_k».proof.Proof.Ideal.Macro

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)
variable (K : Dev nD × CK → ℕ)
variable (out : Memref sig .tc .vmem S2048x2048 .f32) (c : Dev nD) (g : Fin 6)

theorem run_bind (p : P (F := F)) (f : PUnit → P (F := F)) (Q : PUnit → sProp 𝕄) :
    run c (p >>= f) Q = run c p fun a => run c (f a) Q := wp_bind ..

/-- Where the six copies stand. -/
def cps (a₀ a₁ a₂ b₀ b₁ b₂ : Fin 4) : sProp 𝕄 :=
  iprop(rsSt (F := F) c g 0 a₀ ∗ rsSt (F := F) c g 1 a₁ ∗ rsSt (F := F) c g 2 a₂
    ∗ agSt (F := F) c g 0 b₀ ∗ agSt (F := F) c g 1 b₁ ∗ agSt (F := F) c g 2 b₂)

/-- The rows received in each gathering step. -/
abbrev A₀ : Finset (agShape g).Idx := agSeg g 3 (peer (ax g 2) c)
abbrev A₁ : Finset (agShape g).Idx := agSeg g 2 (peer (ax g 1) c)
abbrev A₂ : Finset (agShape g).Idx := agSeg g 1 (peer (ax g 0) c)
/-- The shares. -/
abbrev qL : PosShare TreeShare := fullShare.left
abbrev qR : PosShare TreeShare := fullShare.right
abbrev qRL : PosShare TreeShare := fullShare.right.left
abbrev qRR : PosShare TreeShare := fullShare.right.right
abbrev qRRL : PosShare TreeShare := fullShare.right.right.left
abbrev qRRR : PosShare TreeShare := fullShare.right.right.right

/-- The gathering buffer and the copies, after `n` steps. -/
def GR : Fin 11 → sProp 𝕄
  | 0 => iprop(cps (F := F) c g 0 0 0 0 0 0 ∗ heldAny (Val := Elt F) (c : Thread nD τ) (agM g) (agSeg g 3 c) fullShare)
  | 1 => iprop(cps (F := F) c g 1 0 0 0 0 0 ∗ heldAny (Val := Elt F) (c : Thread nD τ) (agM g) (agSeg g 3 c) fullShare)
  | 2 => iprop(cps (F := F) c g 2 1 0 0 0 0 ∗ heldAny (Val := Elt F) (c : Thread nD τ) (agM g) (agSeg g 3 c) fullShare)
  | 3 => iprop(cps (F := F) c g 2 2 1 0 0 0 ∗ heldAny (Val := Elt F) (c : Thread nD τ) (agM g) (agSeg g 3 c) fullShare)
  | 4 => iprop(cps (F := F) c g 2 2 2 1 0 0 ∗ agH X W c g (agSeg g 3 c) qR)
  | 5 => iprop(cps (F := F) c g 2 2 2 2 1 0 ∗ agH X W c g (agSeg g 2 c) qRR ∗ agH X W c g (A₀ c g) qL)
  | 6 => iprop(cps (F := F) c g 2 2 2 2 2 1 ∗ agH X W c g (agSeg g 1 c) qRRR ∗ agH X W c g (A₀ c g) qL
      ∗ agH X W c g (A₁ c g) qL ∗ agH X W c g (A₁ c g) qRL)
  | 7 => iprop(cps (F := F) c g 2 2 2 2 2 2 ∗ agH X W c g (agSeg g 1 c) qRRR ∗ agH X W c g (A₀ c g) qL
      ∗ agH X W c g (A₁ c g) qL ∗ agH X W c g (A₁ c g) qRL ∗ agH X W c g (A₂ c g) fullShare)
  | 8 => iprop(cps (F := F) c g 3 2 2 3 2 2 ∗ agH X W c g (agSeg g 1 c) qRRR ∗ agH X W c g (agSeg g 1 c) qL
      ∗ agH X W c g (A₁ c g) qRL ∗ agH X W c g (A₂ c g) fullShare)
  | 9 => iprop(cps (F := F) c g 3 3 2 3 3 2 ∗ agH X W c g (agSeg g 1 c) qRRR ∗ agH X W c g (agSeg g 1 c) qL
      ∗ agH X W c g (agSeg g 1 c) qRL ∗ agH X W c g (A₂ c g) fullShare)
  | 10 => iprop(cps (F := F) c g 3 3 3 3 3 3 ∗ agH X W c g Finset.univ fullShare)

/-- The part of the result that is settled after `n` steps, -/
def outU : Fin 11 → Finset OutIdx
  | 0 => outSeg g 0 c | 1 => outSeg g 0 c | 2 => outSeg g 1 c | 3 => outSeg g 2 c | 4 => outSeg g 3 c | 5 => outSeg g 2 c
  | 6 => outSeg g 1 c | _ => outSeg g 0 c
/-- and what is there. -/
def outV : Fin 11 → Vec F S2048x2048 .f32
  | 0 => acc X W g 0 c | 1 => acc X W g 0 c | 2 => acc X W g 1 c | 3 => acc X W g 2 c | _ => final X W g c

/-- What a device holds of group `g` after `n` steps. -/
def GS (n : Fin 11) : sProp 𝕄 := iprop(outH out c (col g) (outU c g n) (outV X W c g n) ∗ GR X W c g n)

/-! ## Rows and shares put together -/

theorem seg_join (k : Fin 3) {S A T : Finset (agShape g).Idx} (hS : S = agSeg g k.succ c) (hA : A = agSeg g k.succ (peer (ax g k) c))
    (hT : T = agSeg g k.castSucc c) (q : PosShare TreeShare) :
    iprop(agH X W c g S q ∗ agH X W c g A q) ⊢ agH X W c g T q := by
  subst hS hA hT
  rw [agSeg_half]
  exact held_join (agSeg_apart g k c)

theorem seg_cut (k : Fin 3) {S A T : Finset (agShape g).Idx} (hS : S = agSeg g k.succ c) (hA : A = agSeg g k.succ (peer (ax g k) c))
    (hT : T = agSeg g k.castSucc c) (q : PosShare TreeShare) :
    agH X W c g T q ⊢ iprop(agH X W c g S q ∗ agH X W c g A q) := by
  subst hS hA hT
  rw [agSeg_half]
  exact held_cut (agSeg_apart g k c)

theorem cut_share (S : Finset (agShape g).Idx) (q : PosShare TreeShare) : agH X W c g S q ⊢ iprop(agH X W c g S q.left ∗ agH X W c g S q.right) :=
  held_share (PosShare.mem_left_op_right q)
theorem join_share (S : Finset (agShape g).Idx) (q : PosShare TreeShare) : iprop(agH X W c g S q.left ∗ agH X W c g S q.right) ⊢ agH X W c g S q :=
  held_unshare (PosShare.mem_left_op_right q)

/-! ## The steps -/

section Steps

variable (l : List (Fin 6 × Fin 10))

theorem wp_step0 {Q : PUnit → sProp 𝕄} {S U : Finset OutIdx} (hS : outSeg g 1 (peer (ax g 0) c) ⊆ S)
    (hU : outSeg g 1 (peer (ax g 0) c) ⊆ U) :
    iprop(ctx X W K ∗ outH out c S U (acc X W g 0 c) ∗ GR X W c g 0 ∗ Owes (F := F) c ((g, 0) :: l)
        ∗ ((outH out c S U (acc X W g 0 c) ∗ GR X W c g 1 ∗ Owes (F := F) c l) -∗ Q ⟨⟩))
      ⊢ run c (step out c g 0) Q := by
  dsimp only [GR, cps]
  iintro ⟨#HC, Hout, ⟨⟨Hr, Hrest⟩, Hag⟩, HO, HQ⟩
  dsimp only [step]
  iapply (wp_startRs X W K out c g 0 hS hU (V := acc X W g 0 c) rfl (g, 0) l rfl)
  isplitr; · iexact HC
  isplitl [Hout]; · iexact Hout
  isplitl [Hr]; · iexact Hr
  isplitl [HO]; · iexact HO
  iintro ⟨Hout, Hr, HO⟩
  iapply HQ
  isplitl [Hout]; · iexact Hout
  isplitl [Hr Hrest Hag]
  · isplitl [Hr Hrest]
    · isplitl [Hr]; · iexact Hr
      iexact Hrest
    iexact Hag
  iexact HO

theorem wp_step1 {Q : PUnit → sProp 𝕄} (hl : ∀ p ∈ l, 1 ≤ p.2.val) :
    iprop(ctx X W K ∗ GS X W out c g 1 ∗ Owes (F := F) c ((g, 1) :: l) ∗ ((GS X W out c g 2 ∗ Owes (F := F) c l) -∗ Q ⟨⟩))
      ⊢ run c (step out c g 1) Q := by
  dsimp only [GS, GR, cps]
  iintro ⟨#HC, ⟨Hout, ⟨H0, H1, Hrest⟩, Hag⟩, HO, HQ⟩
  dsimp only [step]
  rw [run_bind]
  iapply (wp_rsAdd X W K out c g 0 (outSeg_sub_col g _ c) (U := outU c g 1) (V := outV X W c g 1) (U' := outU c g 2) (V' := outV X W c g 2)
    ((outSeg_sub_col g _ c).trans (outSeg_zero g c).ge) rfl rfl rfl ((g, 1) :: l) (List.forall_mem_cons.mpr ⟨Nat.one_pos, hl⟩))
  isplitr; · iexact HC
  isplitl [Hout]; · iexact Hout
  isplitl [H0]; · iexact H0
  isplitl [HO]; · iexact HO
  iintro ⟨Hout, H0, HO⟩
  iapply (wp_startRs X W K out c g 1 (outSeg_sub_col g _ _) (U := outU c g 2) ((outSeg_half g 1 c).ge.trans' Finset.subset_union_right)
    (V := outV X W c g 2) rfl (g, 1) l rfl)
  isplitr; · iexact HC
  isplitl [Hout]; · iexact Hout
  isplitl [H1]; · iexact H1
  isplitl [HO]; · iexact HO
  iintro ⟨Hout, H1, HO⟩
  iapply HQ
  isplitr [HO]
  · isplitl [Hout]; · iexact Hout
    isplitl [H0 H1 Hrest]
    · isplitl [H0]; · iexact H0
      isplitl [H1]; · iexact H1
      iexact Hrest
    iexact Hag
  iexact HO

theorem wp_step2 {Q : PUnit → sProp 𝕄} (hl : ∀ p ∈ l, 2 ≤ p.2.val) :
    iprop(ctx X W K ∗ GS X W out c g 2 ∗ Owes (F := F) c ((g, 2) :: l) ∗ ((GS X W out c g 3 ∗ Owes (F := F) c l) -∗ Q ⟨⟩))
      ⊢ run c (step out c g 2) Q := by
  dsimp only [GS, GR, cps]
  iintro ⟨#HC, ⟨Hout, ⟨H0, H1, H2, Hrest⟩, Hag⟩, HO, HQ⟩
  dsimp only [step]
  rw [run_bind]
  iapply (wp_rsAdd X W K out c g 1 (outSeg_sub_col g _ c) (U := outU c g 2) (V := outV X W c g 2) (U' := outU c g 3) (V' := outV X W c g 3)
    ((outSeg_half g 1 c).ge.trans' Finset.subset_union_left) rfl rfl rfl ((g, 2) :: l) (List.forall_mem_cons.mpr ⟨Nat.lt_succ_self _, hl⟩))
  isplitr; · iexact HC
  isplitl [Hout]; · iexact Hout
  isplitl [H1]; · iexact H1
  isplitl [HO]; · iexact HO
  iintro ⟨Hout, H1, HO⟩
  iapply (wp_startRs X W K out c g 2 (outSeg_sub_col g _ _) (U := outU c g 3) ((outSeg_half g 2 c).ge.trans' Finset.subset_union_right)
    (V := outV X W c g 3) rfl (g, 2) l rfl)
  isplitr; · iexact HC
  isplitl [Hout]; · iexact Hout
  isplitl [H2]; · iexact H2
  isplitl [HO]; · iexact HO
  iintro ⟨Hout, H2, HO⟩
  iapply HQ
  isplitr [HO]
  · isplitl [Hout]; · iexact Hout
    isplitl [H0 H1 H2 Hrest]
    · isplitl [H0]; · iexact H0
      isplitl [H1]; · iexact H1
      isplitl [H2]; · iexact H2
      iexact Hrest
    iexact Hag
  iexact HO

theorem wp_step3 {Q : PUnit → sProp 𝕄} (hl : ∀ p ∈ l, 3 ≤ p.2.val) :
    iprop(ctx X W K ∗ GS X W out c g 3 ∗ Owes (F := F) c ((g, 3) :: l) ∗ ((GS X W out c g 4 ∗ Owes (F := F) c l) -∗ Q ⟨⟩))
      ⊢ run c (step out c g 3) Q := by
  dsimp only [GS, GR, cps]
  iintro ⟨#HC, ⟨Hout, ⟨H0, H1, H2, H3, Hrest⟩, Hag⟩, HO, HQ⟩
  dsimp only [step]
  rw [run_bind]
  iapply (wp_rsAdd X W K out c g 2 (outSeg_sub_col g _ c) (U := outU c g 3) (V := outV X W c g 3) (U' := outSeg g 3 c) (V' := acc X W g 3 c)
    ((outSeg_half g 2 c).ge.trans' Finset.subset_union_left) rfl rfl rfl ((g, 3) :: l) (List.forall_mem_cons.mpr ⟨Nat.lt_succ_self _, hl⟩))
  isplitr; · iexact HC
  isplitl [Hout]; · iexact Hout
  isplitl [H2]; · iexact H2
  isplitl [HO]; · iexact HO
  iintro ⟨Hout, H2, HO⟩
  rw [run_bind]
  iapply (wp_gateOwn X W out c g (outSeg_sub_col g 3 c))
  isplitl [Hout]; · iexact Hout
  isplitl [Hag]; · iexact Hag
  iintro ⟨Hout, Hag⟩
  ihave Hag := (cut_share X W c g (agSeg g 3 c) fullShare) $$ Hag
  icases Hag with ⟨HL, HR⟩
  iapply (wp_startAg X W K c g 0 (T := agSeg g 3 c) rfl (q := qL) rfl (g, 3) l rfl)
  isplitr; · iexact HC
  isplitl [HL]; · iexact HL
  isplitl [H3]; · iexact H3
  isplitl [HO]; · iexact HO
  iintro ⟨H3, HO⟩
  iapply HQ
  isplitr [HO]
  · isplitl [Hout]; · iexact Hout
    isplitl [H0 H1 H2 H3 Hrest]
    · isplitl [H0]; · iexact H0
      isplitl [H1]; · iexact H1
      isplitl [H2]; · iexact H2
      isplitl [H3]; · iexact H3
      iexact Hrest
    iexact HR
  iexact HO

theorem wp_step4 {Q : PUnit → sProp 𝕄} (hl : ∀ p ∈ l, 4 ≤ p.2.val) :
    iprop(ctx X W K ∗ GS X W out c g 4 ∗ Owes (F := F) c ((g, 4) :: l) ∗ ((GS X W out c g 5 ∗ Owes (F := F) c l) -∗ Q ⟨⟩))
      ⊢ run c (step out c g 4) Q := by
  dsimp only [GS, GR, cps]
  iintro ⟨#HC, ⟨Hout, ⟨H0, H1, H2, H3, H4, H5⟩, HR⟩, HO, HQ⟩
  dsimp only [step]
  rw [run_bind]
  iapply (wp_agWait X W K c g 0 (T := A₀ c g) rfl ((g, 4) :: l) (List.forall_mem_cons.mpr ⟨Nat.lt_succ_self _, hl⟩))
  isplitr; · iexact HC
  isplitl [H3]; · iexact H3
  isplitl [HO]; · iexact HO
  iintro ⟨HA, H3, HO⟩
  ihave HA := (cut_share X W c g (A₀ c g) fullShare) $$ HA
  icases HA with ⟨HAL, HAR⟩
  ihave HR := (seg_join X W c g 2 (S := agSeg g 3 c) (A := A₀ c g) (T := agSeg g 2 c) rfl rfl rfl qR) $$ [HR HAR]
  · isplitl [HR]; · iexact HR
    iexact HAR
  ihave HR := (cut_share X W c g (agSeg g 2 c) qR) $$ HR
  icases HR with ⟨HL, HR⟩
  rw [run_bind]
  iapply (wp_startAg X W K c g 1 (T := agSeg g 2 c) rfl (q := qRL) rfl (g, 4) l rfl)
  isplitr; · iexact HC
  isplitl [HL]; · iexact HL
  isplitl [H4]; · iexact H4
  isplitl [HO]; · iexact HO
  iintro ⟨H4, HO⟩
  iapply (wp_agOut X W out c g 0 (U := outU c g 4) (U' := outU c g 5) rfl rfl (outSeg_sub_col g _ c)
    (T := agSeg g 2 c) ((agSeg_half g 2 c).ge.trans' Finset.subset_union_right))
  isplitl [Hout]; · iexact Hout
  isplitl [HR]; · iexact HR
  iintro ⟨Hout, HR⟩
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HR]; · iexact HR
    iexact HAL
  iexact HO

theorem wp_step5 {Q : PUnit → sProp 𝕄} (hl : ∀ p ∈ l, 5 ≤ p.2.val) :
    iprop(ctx X W K ∗ GS X W out c g 5 ∗ Owes (F := F) c ((g, 5) :: l) ∗ ((GS X W out c g 6 ∗ Owes (F := F) c l) -∗ Q ⟨⟩))
      ⊢ run c (step out c g 5) Q := by
  dsimp only [GS, GR, cps]
  iintro ⟨#HC, ⟨Hout, ⟨H0, H1, H2, H3, H4, H5⟩, HR, HA0⟩, HO, HQ⟩
  dsimp only [step]
  rw [run_bind]
  iapply (wp_agWait X W K c g 1 (T := A₁ c g) rfl ((g, 5) :: l) (List.forall_mem_cons.mpr ⟨Nat.lt_succ_self _, hl⟩))
  isplitr; · iexact HC
  isplitl [H4]; · iexact H4
  isplitl [HO]; · iexact HO
  iintro ⟨HA, H4, HO⟩
  ihave HA := (cut_share X W c g (A₁ c g) fullShare) $$ HA
  icases HA with ⟨HAL, HAR⟩
  ihave HAR := (cut_share X W c g (A₁ c g) qR) $$ HAR
  icases HAR with ⟨HARL, HARR⟩
  ihave HR := (seg_join X W c g 1 (S := agSeg g 2 c) (A := A₁ c g) (T := agSeg g 1 c) rfl rfl rfl qRR) $$ [HR HARR]
  · isplitl [HR]; · iexact HR
    iexact HARR
  ihave HR := (cut_share X W c g (agSeg g 1 c) qRR) $$ HR
  icases HR with ⟨HL, HR⟩
  rw [run_bind]
  iapply (wp_startAg X W K c g 2 (T := agSeg g 1 c) rfl (q := qRRL) rfl (g, 5) l rfl)
  isplitr; · iexact HC
  isplitl [HL]; · iexact HL
  isplitl [H5]; · iexact H5
  isplitl [HO]; · iexact HO
  iintro ⟨H5, HO⟩
  iapply (wp_agOut X W out c g 1 (U := outU c g 5) (U' := outU c g 6) rfl rfl (outSeg_sub_col g _ c)
    (T := agSeg g 1 c) ((agSeg_half g 1 c).ge.trans' Finset.subset_union_right))
  isplitl [Hout]; · iexact Hout
  isplitl [HR]; · iexact HR
  iintro ⟨Hout, HR⟩
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HR]; · iexact HR
    isplitl [HA0]; · iexact HA0
    isplitl [HAL]; · iexact HAL
    iexact HARL
  iexact HO

/-- The last four steps pay nothing. -/
theorem owes_same {n : Fin 10} (hn : payX g n = none) : Owes (F := F) c ((g, n) :: l) ⊢ Owes (F := F) c l := by
  unfold Owes
  have : owe c ((g, n) :: l) = owe c l := by
    show owe c l + oweOf c (g, n) = _
    unfold oweOf; rw [hn]; exact add_zero _
  rw [this]

theorem wp_step6 {Q : PUnit → sProp 𝕄} (hl : ∀ p ∈ l, 6 ≤ p.2.val) :
    iprop(ctx X W K ∗ GS X W out c g 6 ∗ Owes (F := F) c ((g, 6) :: l) ∗ ((GS X W out c g 7 ∗ Owes (F := F) c l) -∗ Q ⟨⟩))
      ⊢ run c (step out c g 6) Q := by
  dsimp only [GS, GR, cps]
  iintro ⟨#HC, ⟨Hout, ⟨H0, H1, H2, H3, H4, H5⟩, Hag⟩, HO, HQ⟩
  ihave HO := (owes_same c g l (n := 6) rfl) $$ HO
  dsimp only [step]
  rw [run_bind]
  iapply (wp_agWait X W K c g 2 (T := A₂ c g) rfl l hl)
  isplitr; · iexact HC
  isplitl [H5]; · iexact H5
  isplitl [HO]; · iexact HO
  iintro ⟨HA, H5, HO⟩
  iapply (wp_agOut X W out c g 2 (U := outU c g 6) (U' := outU c g 7) rfl rfl (outSeg_sub_col g _ c)
    (T := A₂ c g) (fun _ h => h))
  isplitl [Hout]; · iexact Hout
  isplitl [HA]; · iexact HA
  iintro ⟨Hout, HA⟩
  icases Hag with ⟨HR, HA0, HA1, HA2⟩
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HR]; · iexact HR
    isplitl [HA0]; · iexact HA0
    isplitl [HA1]; · iexact HA1
    isplitl [HA2]; · iexact HA2
    iexact HA
  iexact HO

theorem wp_step7 {Q : PUnit → sProp 𝕄} :
    iprop(ctx X W K ∗ GS X W out c g 7 ∗ Owes (F := F) c ((g, 7) :: l) ∗ ((GS X W out c g 8 ∗ Owes (F := F) c l) -∗ Q ⟨⟩))
      ⊢ run c (step out c g 7) Q := by
  dsimp only [GS, GR, cps]
  iintro ⟨#HC, ⟨Hout, ⟨H0, H1, H2, H3, H4, H5⟩, HR, HA0, HA1, HA2, HA⟩, HO, HQ⟩
  ihave HO := (owes_same c g l (n := 7) rfl) $$ HO
  dsimp only [step]
  iapply (wp_finWait X W K c g 0 (T := agSeg g 3 c) rfl (q := qL) rfl l)
  isplitr; · iexact HC
  isplitl [H0]; · iexact H0
  isplitl [H3]; · iexact H3
  isplitl [HO]; · iexact HO
  iintro ⟨HS, H0, H3, HO⟩
  ihave HS := (seg_join X W c g 2 (S := agSeg g 3 c) (A := A₀ c g) (T := agSeg g 2 c) rfl rfl rfl qL) $$ [HS HA0]
  · isplitl [HS]; · iexact HS
    iexact HA0
  ihave HS := (seg_join X W c g 1 (S := agSeg g 2 c) (A := A₁ c g) (T := agSeg g 1 c) rfl rfl rfl qL) $$ [HS HA1]
  · isplitl [HS]; · iexact HS
    iexact HA1
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HR]; · iexact HR
    isplitl [HS]; · iexact HS
    isplitl [HA2]; · iexact HA2
    iexact HA
  iexact HO

theorem wp_step8 {Q : PUnit → sProp 𝕄} :
    iprop(ctx X W K ∗ GS X W out c g 8 ∗ Owes (F := F) c ((g, 8) :: l) ∗ ((GS X W out c g 9 ∗ Owes (F := F) c l) -∗ Q ⟨⟩))
      ⊢ run c (step out c g 8) Q := by
  dsimp only [GS, GR, cps]
  iintro ⟨#HC, ⟨Hout, ⟨H0, H1, H2, H3, H4, H5⟩, HR, HS0, HA2, HA⟩, HO, HQ⟩
  ihave HO := (owes_same c g l (n := 8) rfl) $$ HO
  dsimp only [step]
  iapply (wp_finWait X W K c g 1 (T := agSeg g 2 c) rfl (q := qRL) rfl l)
  isplitr; · iexact HC
  isplitl [H1]; · iexact H1
  isplitl [H4]; · iexact H4
  isplitl [HO]; · iexact HO
  iintro ⟨HS, H1, H4, HO⟩
  ihave HS := (seg_join X W c g 1 (S := agSeg g 2 c) (A := A₁ c g) (T := agSeg g 1 c) rfl rfl rfl qRL) $$ [HS HA2]
  · isplitl [HS]; · iexact HS
    iexact HA2
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HR]; · iexact HR
    isplitl [HS0]; · iexact HS0
    isplitl [HS]; · iexact HS
    iexact HA
  iexact HO

theorem wp_step9 {Q : PUnit → sProp 𝕄} :
    iprop(ctx X W K ∗ GS X W out c g 9 ∗ Owes (F := F) c ((g, 9) :: l) ∗ ((GS X W out c g 10 ∗ Owes (F := F) c l) -∗ Q ⟨⟩))
      ⊢ run c (step out c g 9) Q := by
  dsimp only [GS, GR, cps]
  iintro ⟨#HC, ⟨Hout, ⟨H0, H1, H2, H3, H4, H5⟩, HR, HS0, HS1, HA⟩, HO, HQ⟩
  ihave HO := (owes_same c g l (n := 9) rfl) $$ HO
  dsimp only [step]
  iapply (wp_finWait X W K c g 2 (T := agSeg g 1 c) rfl (q := qRRL) rfl l)
  isplitr; · iexact HC
  isplitl [H2]; · iexact H2
  isplitl [H5]; · iexact H5
  isplitl [HO]; · iexact HO
  iintro ⟨HS, H2, H5, HO⟩
  ihave HR := (join_share X W c g (agSeg g 1 c) qRR) $$ [HS HR]
  · isplitl [HS]; · iexact HS
    iexact HR
  ihave HR := (join_share X W c g (agSeg g 1 c) qR) $$ [HS1 HR]
  · isplitl [HS1]; · iexact HS1
    iexact HR
  ihave HR := (join_share X W c g (agSeg g 1 c) fullShare) $$ [HS0 HR]
  · isplitl [HS0]; · iexact HS0
    iexact HR
  ihave HR := (seg_join X W c g 0 (S := agSeg g 1 c) (A := A₂ c g) (T := Finset.univ) rfl rfl (agSeg_zero g c).symm fullShare) $$ [HR HA]
  · isplitl [HR]; · iexact HR
    iexact HA
  iapply HQ
  isplitr [HO]
  · isplitl [Hout]; · iexact Hout
    isplitl [H0 H1 H2 H3 H4 H5]
    · isplitl [H0]; · iexact H0
      isplitl [H1]; · iexact H1
      isplitl [H2]; · iexact H2
      isplitl [H3]; · iexact H3
      isplitl [H4]; · iexact H4
      iexact H5
    iexact HR
  iexact HO

/-- Step `n`: the later steps pay no cell below those it waits on. -/
theorem wp_step {Q : PUnit → sProp 𝕄} (n : Fin 10) (hl : n.val < 7 → ∀ p ∈ l, n.val ≤ p.2.val) :
    iprop(ctx X W K ∗ GS X W out c g n.castSucc ∗ Owes (F := F) c ((g, n) :: l) ∗ ((GS X W out c g n.succ ∗ Owes (F := F) c l) -∗ Q ⟨⟩))
      ⊢ run c (step out c g n) Q := by
  match n, hl with
  | 0, _ =>
    refine BIBase.Entails.trans ?_ (wp_step0 X W K out c g l (outSeg_sub_col g _ _) (U := outU c g 0) ((outSeg_sub_col g _ _).trans (outSeg_zero g c).ge))
    show iprop(ctx X W K ∗ GS X W out c g 0 ∗ Owes (F := F) c ((g, 0) :: l) ∗ ((GS X W out c g 1 ∗ Owes (F := F) c l) -∗ Q ⟨⟩)) ⊢ _
    unfold GS
    iintro ⟨HC, ⟨Hout, Hr⟩, HO, HQ⟩
    isplitl [HC]; · iexact HC
    isplitl [Hout]; · iexact Hout
    isplitl [Hr]; · iexact Hr
    isplitl [HO]; · iexact HO
    iintro ⟨Hout, Hr, HO⟩
    iapply HQ
    isplitl [Hout Hr]
    · isplitl [Hout]; · iexact Hout
      iexact Hr
    iexact HO
  | 1, h => exact wp_step1 X W K out c g l (h (by decide))
  | 2, h => exact wp_step2 X W K out c g l (h (by decide))
  | 3, h => exact wp_step3 X W K out c g l (h (by decide))
  | 4, h => exact wp_step4 X W K out c g l (h (by decide))
  | 5, h => exact wp_step5 X W K out c g l (h (by decide))
  | 6, h => exact wp_step6 X W K out c g l (h (by decide))
  | 7, _ => exact wp_step7 X W K out c g l
  | 8, _ => exact wp_step8 X W K out c g l
  | 9, _ => exact wp_step9 X W K out c g l

end Steps

end Cert.KernelIdeal.Cube

end
-- ==== Proof.Ideal.Gemm.lean ====
/- The product of a device's blocks, made 256 rows at a time in two halves. -/
module

public import proofs.«01_k».proof.Proof.Ideal.State

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)
variable (out : Memref sig .tc .vmem S2048x2048 .f32) (x : Memref sig .tc .vmem S2048x256 .f32) (c : Dev nD)

/-- The rows of `x` read for block `r` of half `h`, and the rows of the result written. -/
abbrev xR (h : Fin 2) (d : Dev nD) (r : Fin 4) : Rect S2048x256 := Rect.unit (s := S2048x256) (offX h d r) S256x256.size (x_inb h d r)
abbrev yR (h : Fin 2) (d : Dev nD) (r : Fin 4) : Rect S2048x2048 := Rect.unit (s := S2048x2048) (offY h d r) S256x2048.size (y_inb h d r)

/-- The number of that block of 256 rows. -/
def hv (h : Fin 2) (d : Dev nD) : Nat := if h = 0 then 1 - bit 0 d else bit 0 d
def blk (h : Fin 2) (d : Dev nD) (r : Fin 4) : Nat := 4 * hv h d + r.val
theorem offX_blk (h d r) : offX h d r = ![256 * blk h d r, 0] := by
  rw [offX_eq]; unfold blk; congr 1; show 1024 * hv h d + _ = _; omega
theorem offY_blk (h d r) : offY h d r = ![256 * blk h d r, 0] := by
  rw [offY_eq]; unfold blk; congr 1; show 1024 * hv h d + _ = _; omega

theorem emb_row (h d r) (j : S256x2048.Idx) : ((yR h d r).emb j 0).val = 256 * blk h d r + (j 0).val := by
  exact (ValueKit.rect_emb_unit_val _ _ _ _ _).trans (congrArg (· + (j 0).val) (congrFun (offY_blk h d r) (0 : Fin 2)))
theorem emb_col (h d r) (j : S256x2048.Idx) : ((yR h d r).emb j 1).val = (j 1).val := by
  exact (ValueKit.rect_emb_unit_val _ _ _ _ _).trans
    ((congrArg (· + (j 1).val) (congrFun (offY_blk h d r) (1 : Fin 2))).trans (Nat.zero_add _))
theorem embX_row (h d r) (j : S256x256.Idx) : ((xR h d r).emb j 0).val = 256 * blk h d r + (j 0).val := by
  exact (ValueKit.rect_emb_unit_val _ _ _ _ _).trans (congrArg (· + (j 0).val) (congrFun (offX_blk h d r) (0 : Fin 2)))
theorem embX_col (h d r) (j : S256x256.Idx) : ((xR h d r).emb j 1).val = (j 1).val := by
  exact (ValueKit.rect_emb_unit_val _ _ _ _ _).trans
    ((congrArg (· + (j 1).val) (congrFun (offX_blk h d r) (1 : Fin 2))).trans (Nat.zero_add _))

theorem mem_yR {h d r} {i : OutIdx} : i ∈ (yR h d r).set ↔ 256 * blk h d r ≤ (i 0).val ∧ (i 0).val < 256 * blk h d r + 256 := by
  rw [Rect.mem_set_unit, offY_blk]
  exact Fin.forall_fin_two.trans ⟨And.left, fun e => ⟨e, Nat.zero_le _, by
    show (i 1).val < 0 + 2048
    have : (i 1).val < 2048 := (i 1).isLt
    omega⟩⟩

/-- The block stored is the product's. -/
theorem pay_prod (h : Fin 2) (r : Fin 4) (wv : Vec F S256x2048 .f32) (hw : wv = W c) (xv : Vec F S2048x256 .f32) (hx : xv = X c) (j : S256x2048.Idx) :
    k0_pay3 (k0_pay1 wv) (fun j : (xR h c r).shape.Idx => xv ((xR h c r).emb j)) j = prod X W c ((yR h c r).emb j) := by
  subst hw hx
  have hj : (j 0).val < 256 := (j 0).isLt
  have hr := emb_row h c r j
  have hb : ((yR h c r).emb j 0).val / 256 = blk h c r := by omega
  unfold prod
  have e1 : inBlk ((yR h c r).emb j) = j := by
    funext a
    apply Fin.ext
    revert a
    exact Fin.forall_fin_two.mpr ⟨by show ((yR h c r).emb j 0).val % 256 = _; omega, emb_col h c r j⟩
  have e2 : xrows (((yR h c r).emb j 0).val / 256) (blk_lt _) (X c) = fun i => X c ((xR h c r).emb i) := by
    funext i
    unfold xrows
    refine congrArg (X c) ?_
    funext a
    apply Fin.ext
    revert a
    exact Fin.forall_fin_two.mpr ⟨by show 256 * _ + _ = _; rw [hb]; exact (embX_row h c r i).symm, (embX_col h c r i).symm⟩
  rw [e1, e2]

theorem wp_gemmRows {Q : PUnit → sProp 𝕄} (h : Fin 2) (r : Fin 4) (wv : Vec F S256x2048 .f32) (hw : wv = W c) (U U' : Finset OutIdx)
    (hU : U' = U ∪ (yR h c r).set) :
    iprop(held (c : Thread nD τ) x Finset.univ fullShare (X c) ∗ outH out c Finset.univ U (prod X W c)
        ∗ ((held (c : Thread nD τ) x Finset.univ fullShare (X c) ∗ outH out c Finset.univ U' (prod X W c)) -∗ Q ⟨⟩))
      ⊢ run c (gemmRows out x (offX h c r) (x_inb h c r) (offY h c r) (y_inb h c r) wv) Q := by
  subst hU
  unfold outH
  iintro ⟨Hx, ⟨%Y, %hY, Hout⟩, HQ⟩
  simp only [gemmRows, Prog.lift, Prog.bind_op, Prog.bind_ret]
  iapply (held_load 𝒱₀ none Set.univ (Finset.subset_univ _)) $$ Hx; iintro Hx
  iapply (held_load 𝒱₀ none Set.univ (Finset.subset_univ _)) $$ Hout; iintro Hout
  iapply (held_store 𝒱₀ none Set.univ (Finset.subset_univ _)) $$ Hout; iintro Hout
  rw [wp_ret]; imodintro
  iapply HQ
  isplitl [Hx]; · iexact Hx
  iexists (yR h c r).overlay Y (k0_pay3 (k0_pay1 wv) (fun j : (xR h c r).shape.Idx => X c ((xR h c r).emb j)))
  isplitr [Hout]
  · ipureintro
    intro i hi
    by_cases hi' : i ∈ (yR h c r).set
    · obtain ⟨j, rfl⟩ := of_mem hi'
      exact (Rect.overlay_emb _ _ _ j).trans (pay_prod X W c h r wv hw (X c) rfl j)
    · rw [Rect.overlay_of_not_mem _ _ _ hi']
      exact hY i ((Finset.mem_union.mp hi).resolve_right hi')
  iexact Hout

/-- The rows of half `h`. -/
def halfU (h : Fin 2) : Finset OutIdx := (yR h c 0).set ∪ (yR h c 1).set ∪ (yR h c 2).set ∪ (yR h c 3).set

theorem wp_gemm {Q : PUnit → sProp 𝕄} (h : Fin 2) (wv : Vec F S256x2048 .f32) (hw : wv = W c) (U U' : Finset OutIdx) (hU : U' = U ∪ halfU c h) :
    iprop(held (c : Thread nD τ) x Finset.univ fullShare (X c) ∗ outH out c Finset.univ U (prod X W c)
        ∗ ((held (c : Thread nD τ) x Finset.univ fullShare (X c) ∗ outH out c Finset.univ U' (prod X W c)) -∗ Q ⟨⟩))
      ⊢ run c (gemm out x c h wv) Q := by
  subst hU
  unfold gemm
  iintro ⟨Hx, Hout, HQ⟩
  rw [run_bind]
  iapply (wp_gemmRows X W out x c h 0 wv hw _ _ rfl)
  isplitl [Hx]; · iexact Hx
  isplitl [Hout]; · iexact Hout
  iintro ⟨Hx, Hout⟩
  rw [run_bind]
  iapply (wp_gemmRows X W out x c h 1 wv hw _ _ rfl)
  isplitl [Hx]; · iexact Hx
  isplitl [Hout]; · iexact Hout
  iintro ⟨Hx, Hout⟩
  rw [run_bind]
  iapply (wp_gemmRows X W out x c h 2 wv hw _ _ rfl)
  isplitl [Hx]; · iexact Hx
  isplitl [Hout]; · iexact Hout
  iintro ⟨Hx, Hout⟩
  iapply (wp_gemmRows X W out x c h 3 wv hw (U ∪ (yR h c 0).set ∪ (yR h c 1).set ∪ (yR h c 2).set) (U ∪ halfU c h) (by unfold halfU; simp only [Finset.union_assoc]))
  isplitl [Hx]; · iexact Hx
  isplitl [Hout]; · iexact Hout
  iintro H
  iapply HQ $$ H

theorem mem_halfU {h : Fin 2} {i : OutIdx} : i ∈ halfU c h ↔ 1024 * hv h c ≤ (i 0).val ∧ (i 0).val < 1024 * hv h c + 1024 := by
  simp only [halfU, Finset.mem_union, mem_yR]
  have e0 : blk h c 0 = 4 * hv h c := rfl
  have e1 : blk h c 1 = 4 * hv h c + 1 := rfl
  have e2 : blk h c 2 = 4 * hv h c + 2 := rfl
  have e3 : blk h c 3 = 4 * hv h c + 3 := rfl
  omega

theorem hv_facts : ∀ c : Dev nD, hv 0 c = bit 0 (peer 0 c) ∧ hv 1 c = bit 0 c ∧ hv 0 c + hv 1 c = 1 := by decide +kernel

/-- The two halves are everything. -/
theorem halves_all : halfU c 0 ∪ halfU c 1 = (Finset.univ : Finset OutIdx) := by
  ext i
  have hi := row_lt i
  have hb := (hv_facts c).2.2
  simp only [Finset.mem_univ, iff_true, Finset.mem_union, mem_halfU]
  omega

/-- What the first two copies send is in the half made first. -/
theorem send_half (g : Fin 6) (hg : ax g 0 = 0) : outSeg g 1 (peer (ax g 0) c) ⊆ halfU c 0 := by
  intro i hi
  have h1 := (mem_outSeg.mp hi).1
  have hl : lo g 1 (peer (ax g 0) c) = 1024 * hv 0 c := by
    rw [(hv_facts c).1]; show 1024 * bit (ax g 0) (peer (ax g 0) c) = _; rw [hg]
  rw [mem_halfU, ← hl]
  exact h1

end Cert.KernelIdeal.Cube

end
-- ==== Proof.Ideal.Run.lean ====
/- A device's whole run: the signals, the product, the barrier, the steps. -/
module

public import proofs.«01_k».proof.Proof.Ideal.Gemm

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)
variable (K : Dev nD × CK → ℕ)

/-! ## Families of three and of six -/

theorem three (Φ : Fin 3 → sProp 𝕄) : bigSep Finset.univ Φ = iprop(Φ 0 ∗ Φ 1 ∗ Φ 2) :=
  bigSep_univ_eq_bigSepL [(0 : Fin 3), 1, 2] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem each {I : Type} [Fintype I] {Φ Ψ : I → sProp 𝕄} (h : ∀ i, Φ i ⊢ Ψ i) : bigSep Finset.univ Φ ⊢ bigSep Finset.univ Ψ :=
  bigSep_mono fun i _ => h i
theorem run_seq (c : Dev nD) {p : P (F := F)} {f : PUnit → P (F := F)} {Q : PUnit → sProp 𝕄} :
    run c p (fun a => run c (f a) Q) ⊢ run c (p >>= f) Q := Entails.of_eq (run_bind c p f Q).symm
theorem run_ret (c : Dev nD) (Q : PUnit → sProp 𝕄) : run c (.ret ⟨⟩ : P (F := F)) Q = iprop(|={Set.univ}[frame]=> Q ⟨⟩) := rfl

/-! ## Before and after the barrier -/

section Barrier

variable (c : Dev nD)

/-- What a device holds of reduce-scatter step `k` before the barrier, -/
def rsPre (g : Fin 6) (k : Fin 3) : sProp 𝕄 :=
  iprop(tok c (0, g, k) ∗ tok (peer (ax g k) c) (1, g, k) ∗ heldAny (Val := Elt F) (c : Thread nD τ) (sendM g k) Finset.univ fullShare
    ∗ at0 c (0, g, k) ∗ at0 c (1, g, k) ∗ crd c (1, g, k))
/-- of gathering step `j`, -/
def agPre (g : Fin 6) (j : Fin 3) : sProp 𝕄 :=
  iprop(tok c (2, g, j) ∗ tok (peer (ax g j.rev) c) (3, g, j) ∗ at0 c (2, g, j) ∗ at0 c (3, g, j) ∗ crd c (3, g, j))
/-- of a group. -/
def grpPre (g : Fin 6) : sProp 𝕄 := iprop(bigSep Finset.univ (rsPre (F := F) c g) ∗ bigSep Finset.univ (agPre (F := F) c g))

/-- What the partner across step `k`'s axis lends. -/
def given (g : Fin 6) (k : Fin 3) : sProp 𝕄 :=
  iprop(heldAny (Val := Elt F) (peer (ax g k) c : Thread nD τ) (recvM g k) Finset.univ fullShare
    ∗ heldAny (Val := Elt F) (peer (ax g k) c : Thread nD τ) (agM g) (agSeg g k.succ c) fullShare)
/-- What a device lends the partner across step `k`'s axis. -/
def lent (g : Fin 6) (k : Fin 3) : sProp 𝕄 :=
  iprop(heldAny (Val := Elt F) (c : Thread nD τ) (recvM g k) Finset.univ fullShare
    ∗ heldAny (Val := Elt F) (c : Thread nD τ) (agM g) (agSeg g k.succ (peer (ax g k) c)) fullShare)

theorem give_given (g : Fin 6) : bigSep Finset.univ (fun a => give (F := F) c a g) = bigSep Finset.univ (given (F := F) c g) := by
  rw [bigSep_univ_equiv (axEquiv g).symm]
  refine bigSep_congr fun k _ => ?_
  show give c (ax g k) g = _
  unfold give given
  rw [stepOf_ax]
theorem lent_give (g : Fin 6) : bigSep Finset.univ (lent (F := F) c g) = bigSep Finset.univ (fun a => give (F := F) (peer a c) a g) := by
  symm
  rw [bigSep_univ_equiv (axEquiv g).symm]
  refine bigSep_congr fun k _ => ?_
  show give (peer (ax g k) c) (ax g k) g = _
  unfold give lent
  rw [stepOf_ax, peer_peer]

theorem cut_rows (g : Fin 6) (k : Fin 3) {T S A : Finset (agShape g).Idx} (hT : T = agSeg g k.castSucc c) (hS : S = agSeg g k.succ c)
    (hA : A = agSeg g k.succ (peer (ax g k) c)) :
    (heldAny (Val := Elt F) (c : Thread nD τ) (agM g) T fullShare : sProp 𝕄)
      ⊢ iprop(heldAny (Val := Elt F) (c : Thread nD τ) (agM g) S fullShare ∗ heldAny (Val := Elt F) (c : Thread nD τ) (agM g) A fullShare) := by
  subst hT hS hA
  rw [agSeg_half]
  exact heldAny_cut (agSeg_apart g k c)

/-- A device keeps its own rows of the gathering buffer and lends the rest. -/
theorem lend (g : Fin 6) :
    iprop(bigSep Finset.univ (fun k => heldAny (Val := Elt F) (c : Thread nD τ) (recvM g k) Finset.univ fullShare)
        ∗ heldAny (Val := Elt F) (c : Thread nD τ) (agM g) Finset.univ fullShare)
      ⊢ (iprop(bigSep Finset.univ (lent (F := F) c g) ∗ heldAny (Val := Elt F) (c : Thread nD τ) (agM g) (agSeg g 3 c) fullShare) : sProp 𝕄) := by
  rw [three, three]
  unfold lent
  iintro ⟨⟨H0, H1, H2⟩, H⟩
  ihave H := (cut_rows c g 0 (S := agSeg g 1 c) (agSeg_zero g c).symm rfl rfl) $$ H
  icases H with ⟨H, A0⟩
  ihave H := (cut_rows c g 1 (T := agSeg g 1 c) (S := agSeg g 2 c) rfl rfl rfl) $$ H
  icases H with ⟨H, A1⟩
  ihave H := (cut_rows c g 2 (T := agSeg g 2 c) (S := agSeg g 3 c) rfl rfl rfl) $$ H
  icases H with ⟨H, A2⟩
  isplitr [H]
  · isplitl [H0 A0]
    · isplitl [H0]; · iexact H0
      iexact A0
    isplitl [H1 A1]
    · isplitl [H1]; · iexact H1
      iexact A1
    isplitl [H2]; · iexact H2
    iexact A2
  iexact H

/-- With what the partners lend a group can begin. -/
theorem begin_rs (g : Fin 6) (k : Fin 3) :
    iprop(rsPre c g k ∗ heldAny (Val := Elt F) (peer (ax g k) c : Thread nD τ) (recvM g k) Finset.univ fullShare) ⊢ rsSt (F := F) c g k 0 := by
  dsimp only [rsPre, rsSt]
  iintro ⟨⟨H1, H2, H3, H4, H5, H6⟩, H⟩
  isplitl [H1]; · iexact H1
  isplitl [H2]; · iexact H2
  isplitl [H3]; · iexact H3
  isplitl [H]; · iexact H
  isplitl [H4]; · iexact H4
  isplitl [H5]; · iexact H5
  iexact H6
theorem begin_ag (g : Fin 6) (j : Fin 3) :
    iprop(agPre c g j ∗ heldAny (Val := Elt F) (peer (ax g j.rev) c : Thread nD τ) (agM g) (agSeg g j.rev.succ c) fullShare) ⊢ agSt (F := F) c g j 0 := by
  dsimp only [agPre, agSt]
  iintro ⟨⟨H1, H2, H4, H5, H6⟩, H⟩
  isplitl [H1]; · iexact H1
  isplitl [H2]; · iexact H2
  isplitl [H]; · iexact H
  isplitl [H4]; · iexact H4
  isplitl [H5]; · iexact H5
  iexact H6
theorem begin_group (g : Fin 6) :
    iprop(grpPre (F := F) c g ∗ bigSep Finset.univ (given (F := F) c g)
        ∗ heldAny (Val := Elt F) (c : Thread nD τ) (agM g) (agSeg g 3 c) fullShare) ⊢ GR X W c g 0 := by
  dsimp only [grpPre, GR, cps]
  rw [three, three, three]
  unfold given
  iintro ⟨⟨⟨R0, R1, R2⟩, ⟨A0, A1, A2⟩⟩, ⟨⟨B0, D0⟩, ⟨B1, D1⟩, ⟨B2, D2⟩⟩, H⟩
  isplitr [H]
  · isplitl [R0 B0]
    · iapply (begin_rs c g 0)
      isplitl [R0]; · iexact R0
      iexact B0
    isplitl [R1 B1]
    · iapply (begin_rs c g 1)
      isplitl [R1]; · iexact R1
      iexact B1
    isplitl [R2 B2]
    · iapply (begin_rs c g 2)
      isplitl [R2]; · iexact R2
      iexact B2
    isplitl [A0 D2]
    · iapply (begin_ag c g 0)
      isplitl [A0]; · iexact A0
      iexact D2
    isplitl [A1 D1]
    · iapply (begin_ag c g 1)
      isplitl [A1]; · iexact A1
      iexact D1
    iapply (begin_ag c g 2)
    isplitl [A2]; · iexact A2
    iexact D0
  iexact H

/-- The right to pay the partners' barriers. -/
abbrev barTok (a : Fin 3) : sProp 𝕄 := dutyTok ER (kcell (peer a c) none) 0 a

/-- A signal to the partner across axis `a`. -/
theorem wp_sig {Q : PUnit → sProp 𝕄} {k : PUnit → P (F := F)} (a : Fin 3) (d : Dev nD) (hd : d = peer a c)
    {O O' : CellTallies nD τ sig Unit} (hO : O' = O + oweBar c a) {W' : Waits sig Unit} :
    iprop(ctx X W K ∗ owes (c : Thread nD τ) O' W' ∗ barTok c a ∗ bigSep Finset.univ (give (F := F) (peer a c) a))
      ⊢ iprop((owes (c : Thread nD τ) O W' -∗ run c (k ⟨⟩) Q) -∗ run c (semSignalWord d barS 1#32 >>= k) Q) := by
  subst hd
  simp only [semSignalWord, Prog.lift, Prog.bind_op, Prog.bind_ret]
  iintro ⟨#HC, HO, Ht, Hp⟩ Hk
  ihave #HI := (ctx_inv X W K (peer a c) none) $$ HC
  ihave #HR := (ctx_reached X W K (peer a c) none) $$ HC
  have hc : kcell (peer a c) none = ((peer a c : Thread nD τ), SemLoc.reg barS) := rfl
  iapply (Rounds.wp_signal 𝒱₀ ER (Rd X W) (c : Thread nD τ) none (dst := (peer a c : Thread nD τ)) (κ := K (peer a c, none))
      (d := a) ((duties_bar X W (peer a c)).symm ▸ Finset.mem_univ a) ((amount_bar X W (peer a c) a).trans (by decide)) () O hO) $$ [HO Ht Hp]
  · isplitr; · iexact HI
    isplitl [HO]; · iexact HO
    isplitl [Ht]; · iexact Ht
    isplitl [Hp]
    · rw [← hc, payload_eq]; unfold pay; iexact Hp
    iexact HR
  iexact Hk

theorem wp_signals {Q : PUnit → sProp 𝕄} {W' : Waits sig Unit} :
    iprop(ctx X W K ∗ owes (c : Thread nD τ) (O₀ c) W' ∗ bigSep Finset.univ (barTok (F := F) c)
        ∗ (bigSep Finset.univ fun g => bigSep Finset.univ (lent (F := F) c g)) ∗ (Owes (F := F) c all -∗ Q ⟨⟩))
      ⊢ run c (signals c) Q := by
  rw [bigSep_congr fun g _ => lent_give (F := F) c g, bigSep_univ_comm, three, three]
  iintro ⟨#HC, HO, ⟨T0, T1, T2⟩, ⟨G0, G1, G2⟩, HQ⟩
  unfold signals
  iapply (wp_sig X W K c 0 _ (dev1_eq c) (O := owe c all + oweBar c 2 + oweBar c 1) rfl) $$ [HO T0 G0]
  · isplitr; · iexact HC
    isplitl [HO]; · iexact HO
    isplitl [T0]; · iexact T0
    iexact G0
  iintro HO
  iapply (wp_sig X W K c 1 _ (dev2_eq c) (O := owe c all + oweBar c 2) rfl) $$ [HO T1 G1]
  · isplitr; · iexact HC
    isplitl [HO]; · iexact HO
    isplitl [T1]; · iexact T1
    iexact G1
  iintro HO
  rw [← bind_pure (semSignalWord (⟨k0_dev3 c, k0_dev3_lt c⟩ : Dev nD) barS 1#32)]
  iapply (wp_sig X W K c 2 _ (dev3_eq c) (O := owe c all) rfl) $$ [HO T2 G2]
  · isplitr; · iexact HC
    isplitl [HO]; · iexact HO
    isplitl [T2]; · iexact T2
    iexact G2
  iintro HO
  rw [Prog.pure_eq_ret, run_ret]; imodintro
  iapply HQ
  unfold Owes
  iexists W'; iexact HO

theorem wp_barrier {Q : PUnit → sProp 𝕄} (l : List (Fin 6 × Fin 10)) :
    iprop(ctx X W K ∗ cred (tallyAt (kcell c none) () 3) ∗ atPos ER (kcell c none) 0 ∅ 0 ∗ Owes (F := F) c l
        ∗ ((semVal (kcell c none) 0 ∗ (bigSep Finset.univ fun g => bigSep Finset.univ (given (F := F) c g)) ∗ Owes (F := F) c l) -∗ Q ⟨⟩))
      ⊢ run c (semWaitWord barS 3#32) Q := by
  rw [← bigSep_congr fun g _ => give_given (F := F) c g, bigSep_univ_comm]
  unfold Owes
  iintro ⟨#HC, Hc, Ha, ⟨%W', HO⟩, HQ⟩
  simp only [semWaitWord, Prog.lift]
  have hc : kcell c none = ((c : Thread nD τ), SemLoc.reg barS) := rfl
  ihave #HI := (ctx_inv X W K c none) $$ HC
  ihave #Hlev := (ctx_lev X W K) $$ HC
  iapply (Rounds.wp_wait_rest_token 𝒱₀ ER (Rd X W) (c : Thread nD τ) none (κ := K (c, none))
      (wpE_semWait_eq 𝒱₀ (c : Thread nD τ) none Set.univ) (Set.mem_univ _) () (O := owe c l) (W := W') (R := 0) (m := 0) (T := ∅)
      (by rw [← hc, expect_bar]; decide)) $$ [Hc HO Ha]
  · isplitr; · iexact HI
    isplitl [Hc]; · iexact Hc
    isplitl [HO]; · iexact HO
    isplitr; · iapply (mayWait_bar (F := F) c l); iexact Hlev
    iexact Ha
  iintro ⟨HO, Ha, -, Hp⟩
  rw [← hc]
  ihave Hp := (Entails.of_eq (rest_bar X W c)) $$ Hp
  imod (Rounds.cell_close ER (Rd X W) (Set.mem_univ (K (c, none))) (fun h => h) (R := 0 + 1) (duties_later X W (kcell c none))) $$ [Ha] with Hz
  · isplitr; · iexact HI
    iexact Ha
  rw [wp_ret]; imodintro
  iapply HQ
  isplitl [Hz]; · iexact Hz
  isplitl [Hp]; · iexact Hp
  iexists _; iexact HO

end Barrier

/-! ## The result cut along the column groups -/

section Columns

variable (out : Memref sig .tc .vmem S2048x2048 .f32) (c : Dev nD)

theorem col_apart {g : Fin 6} {s : Finset (Fin 6)} (h : g ∉ s) : Disjoint (col g) (s.biUnion col) :=
  (Finset.disjoint_biUnion_right _ _ _).mpr fun _ hi => col_disj fun e => h (e ▸ hi)

theorem cut_cols (Y : OutIdx → Elt F .f32) :
    (held (c : Thread nD τ) out Finset.univ fullShare Y : sProp 𝕄) ⊢ bigSep Finset.univ fun g => held (c : Thread nD τ) out (col g) fullShare Y := by
  rw [← col_cover]
  have : ∀ s : Finset (Fin 6), (held (c : Thread nD τ) out (s.biUnion col) fullShare Y : sProp 𝕄)
      ⊢ bigSep s fun g => held (c : Thread nD τ) out (col g) fullShare Y := fun s => by
    induction s using Finset.induction_on with
    | empty => rw [bigSep_empty]; iintro -; iempintro
    | insert g s hg ih =>
      rw [Finset.biUnion_insert, bigSep_insert hg]
      exact (held_cut (col_apart hg)).trans (BI.sep_mono_r ih)
  exact this _

theorem join_cols (Y : OutIdx → Elt F .f32) :
    (bigSep Finset.univ fun g => held (c : Thread nD τ) out (col g) fullShare Y) ⊢ (held (c : Thread nD τ) out Finset.univ fullShare Y : sProp 𝕄) := by
  rw [← col_cover]
  have : ∀ s : Finset (Fin 6), s.Nonempty → (bigSep s fun g => held (c : Thread nD τ) out (col g) fullShare Y)
      ⊢ (held (c : Thread nD τ) out (s.biUnion col) fullShare Y : sProp 𝕄) := fun s hs => by
    induction hs using Finset.Nonempty.cons_induction with
    | singleton g => rw [bigSep_singleton, Finset.singleton_biUnion]
    | cons g s hg hs ih =>
      rw [Finset.cons_eq_insert, Finset.biUnion_insert, bigSep_insert hg]
      exact (BI.sep_mono_r ih).trans (held_join (col_apart hg))
  exact this _ ⟨0, Finset.mem_univ _⟩

/-- How many steps of each group are done when the list of steps is begun. -/
def s₀ (g : Fin 6) : Fin 11 := if g = 0 ∨ g = 3 then 1 else 0

theorem open_cols : outH out c Finset.univ Finset.univ (prod X W c) ⊢ bigSep Finset.univ fun g => outH out c (col g) (outU c g (s₀ g)) (outV X W c g (s₀ g)) := by
  unfold outH
  iintro ⟨%Y, %hY, H⟩
  have e : ∀ g : Fin 6, (held (c : Thread nD τ) out (col g) fullShare Y : sProp 𝕄)
      ⊢ iprop(∃ Y, ⌜∀ i ∈ outU c g (s₀ g), Y i = outV X W c g (s₀ g) i⌝ ∗ held (c : Thread nD τ) out (col g) fullShare Y) := fun g => by
    iintro H
    iexists Y
    isplitr
    · ipureintro
      intro i _
      rw [hY i (Finset.mem_univ i)]
      have : outV X W c g (s₀ g) = prod X W c := by unfold s₀; split <;> rfl
      rw [this]
    iexact H
  iapply (each e)
  iapply (cut_cols out c Y) $$ H

theorem close_cols : (bigSep Finset.univ fun g => outH out c (col g) (outU c g 10) (outV X W c g 10))
    ⊢ (held (c : Thread nD τ) out Finset.univ fullShare (outVal X W c) : sProp 𝕄) := by
  refine BIBase.Entails.trans (each fun g => ?_) (join_cols out c (outVal X W c))
  unfold outH
  iintro ⟨%Y, %hY, H⟩
  have h : ∀ i ∈ col g, Y i = outVal X W c i := fun i hi => by
    rw [hY i ((outSeg_zero g c).ge hi)]
    show final X W g c i = final X W (grp (i 1).val) c i
    rw [(grp_iff i g).mpr hi]
  iapply (held_congr h) $$ H

end Columns

/-! ## The list of steps -/

/-- A list of steps takes every group, from `s` steps done, to ten steps done, and no step pays a cell below a later wait. -/
def Valid : (Fin 6 → Fin 11) → List (Fin 6 × Fin 10) → Prop
  | s, [] => ∀ g, s g = 10
  | s, p :: l => s p.1 = p.2.castSucc ∧ (p.2.val < 7 → ∀ q ∈ l, p.2.val ≤ q.2.val) ∧ Valid (Function.update s p.1 p.2.succ) l
instance Valid.dec : ∀ s l, Decidable (Valid s l)
  | s, [] => by unfold Valid; infer_instance
  | s, p :: l => by unfold Valid; have := Valid.dec (Function.update s p.1 p.2.succ) l; infer_instance

theorem valid_todo : Valid s₀ todo := by decide +kernel

section Run

variable (out : Memref sig .tc .vmem S2048x2048 .f32) (c : Dev nD)

theorem wp_steps {Q : PUnit → sProp 𝕄} : ∀ (l : List (Fin 6 × Fin 10)) (s : Fin 6 → Fin 11), Valid s l →
    (iprop(ctx X W K ∗ (bigSep Finset.univ fun g => GS X W out c g (s g)) ∗ Owes (F := F) c l
        ∗ (((bigSep Finset.univ fun g => GS X W out c g 10) ∗ Owes (F := F) c []) -∗ Q ⟨⟩))
      ⊢ run c (steps out c l) Q)
  | [], s, h => by
    have e : s = fun _ => 10 := funext h
    subst e
    iintro ⟨-, H, HO, HQ⟩
    unfold steps
    rw [Prog.pure_eq_ret, run_ret]; imodintro
    iapply HQ
    isplitl [H]; · iexact H
    iexact HO
  | p :: l, s, h => by
    obtain ⟨g, n⟩ := p
    obtain ⟨h1, h2, h3⟩ := h
    have e : (bigSep (Finset.univ.erase g) fun g' => GS X W out c g' (s g')) = bigSep (Finset.univ.erase g) fun g' => GS X W out c g' (Function.update s g n.succ g') :=
      bigSep_congr fun g' hg' => by rw [Function.update_of_ne (Finset.ne_of_mem_erase hg')]
    have e' : GS X W out c g n.succ = GS X W out c g (Function.update s g n.succ g) := by rw [Function.update_self]
    unfold steps
    rw [bigSep_univ_at _ g, h1, run_bind]
    iintro ⟨#HC, ⟨Hg, Hrest⟩, HO, HQ⟩
    iapply (wp_step X W K out c g l n h2)
    isplitr; · iexact HC
    isplitl [Hg]; · iexact Hg
    isplitl [HO]; · iexact HO
    iintro ⟨Hg, HO⟩
    iapply (wp_steps l (Function.update s g n.succ) h3)
    isplitr; · iexact HC
    isplitl [Hg Hrest]
    · rw [bigSep_univ_at _ g, ← e, ← e']
      isplitl [Hg]; · iexact Hg
      iexact Hrest
    isplitl [HO]; · iexact HO
    iexact HQ

variable (x : Memref sig .tc .vmem S2048x256 .f32) (w : Memref sig .tc .vmem S256x2048 .f32)

theorem wholeW_emb (j : S256x2048.Idx) :
    (Rect.unit (s := S256x2048) ![0, 0] S256x2048.size inb_S256x2048_S256x2048_0_0).emb j = j := by
  funext a
  apply Fin.ext
  rw [ValueKit.rect_emb_unit_val]
  revert a
  exact Fin.forall_fin_two.mpr ⟨Nat.zero_add _, Nat.zero_add _⟩

/-- What the device's run starts from, besides what everyone knows. -/
def pre (W' : Waits sig Unit) : sProp 𝕄 :=
  iprop(owes (c : Thread nD τ) (O₀ c) W' ∗ bigSep Finset.univ (barTok (F := F) c) ∗ cred (tallyAt (kcell c none) () 3) ∗ atPos ER (kcell c none) 0 ∅ 0
    ∗ bigSep Finset.univ (grpPre (F := F) c)
    ∗ (bigSep Finset.univ fun g => iprop(bigSep Finset.univ (fun k => heldAny (Val := Elt F) (c : Thread nD τ) (recvM g k) Finset.univ fullShare)
        ∗ heldAny (Val := Elt F) (c : Thread nD τ) (agM g) Finset.univ fullShare)))

/-- What it ends with. -/
def post : sProp 𝕄 :=
  iprop((bigSep Finset.univ fun g => GR X W c g 10) ∗ Owes (F := F) c [] ∗ semVal (kcell c none) 0
    ∗ held (c : Thread nD τ) x Finset.univ fullShare (X c) ∗ held (c : Thread nD τ) w Finset.univ fullShare (W c)
    ∗ held (c : Thread nD τ) out Finset.univ fullShare (outVal X W c))

theorem wp_prog {Q : PUnit → sProp 𝕄} (W' : Waits sig Unit) (Y : OutIdx → Elt F .f32) :
    iprop(ctx X W K ∗ pre c W'
        ∗ held (c : Thread nD τ) x Finset.univ fullShare (X c) ∗ held (c : Thread nD τ) w Finset.univ fullShare (W c)
        ∗ held (c : Thread nD τ) out Finset.univ fullShare Y
        ∗ (post X W out c x w -∗ Q ⟨⟩))
      ⊢ run c (progAt out x w c) Q := by
  unfold pre
  iintro ⟨#HC, ⟨HO, Ht, Hcr, Ha, Hg, Hbuf⟩, Hx, Hw, Hout, HQ⟩
  ihave Hbuf := (each fun g => lend (F := F) c g) $$ Hbuf
  ihave Hbuf := (Entails.of_eq (bigSep_sep' _ _ _)) $$ Hbuf
  icases Hbuf with ⟨Hl, Hown⟩
  unfold progAt
  rw [run_bind]
  iapply (wp_signals X W K c (W' := W'))
  isplitr; · iexact HC
  isplitl [HO]; · iexact HO
  isplitl [Ht]; · iexact Ht
  isplitl [Hl]; · iexact Hl
  iintro HO
  simp only [Prog.lift, Prog.bind_op, Prog.bind_ret]
  iapply (held_load 𝒱₀ none Set.univ (Finset.subset_univ _)) $$ Hw; iintro Hw
  have hw : (fun j : S256x2048.Idx => W c ((Rect.unit (s := S256x2048) ![0, 0] S256x2048.size inb_S256x2048_S256x2048_0_0).emb j)) = W c :=
    funext fun j => congrArg (W c) (wholeW_emb j)
  iapply (run_seq c)
  iapply (wp_gemm X W out x c 0 _ hw ∅ (halfU c 0) (Finset.empty_union _).symm)
  isplitl [Hx]; · iexact Hx
  isplitl [Hout]
  · unfold outH
    iexists Y; isplitr; · ipureintro; intro i hi; exact absurd hi (Finset.notMem_empty i)
    iexact Hout
  iintro ⟨Hx, Hout⟩
  rw [run_bind]
  iapply (wp_barrier X W K c all)
  isplitr; · iexact HC
  isplitl [Hcr]; · iexact Hcr
  isplitl [Ha]; · iexact Ha
  isplitl [HO]; · iexact HO
  iintro ⟨Hz, Hgiv, HO⟩
  have hjoin : iprop(bigSep Finset.univ (grpPre (F := F) c) ∗ (bigSep Finset.univ fun g => bigSep Finset.univ (given (F := F) c g))
      ∗ (bigSep Finset.univ fun g => heldAny (Val := Elt F) (c : Thread nD τ) (agM g) (agSeg g 3 c) fullShare))
      ⊢ bigSep Finset.univ fun g => GR X W c g 0 := by
    rw [← bigSep_sep', ← bigSep_sep']
    exact each fun g => begin_group X W c g
  ihave Hall := hjoin $$ [Hg Hgiv Hown]
  · isplitl [Hg]; · iexact Hg
    isplitl [Hgiv]; · iexact Hgiv
    iexact Hown
  ihave Hall := (Entails.of_eq (six fun g => GR X W c g 0)) $$ Hall
  icases Hall with ⟨G0, G1, G2, G3, G4, G5⟩
  rw [run_bind]
  iapply (wp_step0 X W K out c 0 ((3, 0) :: todo) (Finset.subset_univ _) (send_half c 0 rfl))
  isplitr; · iexact HC
  isplitl [Hout]; · iexact Hout
  isplitl [G0]; · iexact G0
  isplitl [HO]; · iexact HO
  iintro ⟨Hout, G0, HO⟩
  rw [run_bind]
  iapply (wp_step0 X W K out c 3 todo (Finset.subset_univ _) (send_half c 3 rfl))
  isplitr; · iexact HC
  isplitl [Hout]; · iexact Hout
  isplitl [G3]; · iexact G3
  isplitl [HO]; · iexact HO
  iintro ⟨Hout, G3, HO⟩
  rw [run_bind]
  iapply (wp_gemm X W out x c 1 _ hw (halfU c 0) Finset.univ (halves_all c).symm)
  isplitl [Hx]; · iexact Hx
  isplitl [Hout]; · iexact Hout
  iintro ⟨Hx, Hout⟩
  ihave Hout := (open_cols X W out c) $$ Hout
  iapply (wp_steps X W K out c todo s₀ valid_todo)
  isplitr; · iexact HC
  isplitl [Hout G0 G1 G2 G3 G4 G5]
  · unfold GS
    rw [bigSep_sep']
    isplitl [Hout]; · iexact Hout
    rw [six]
    isplitl [G0]; · iexact G0
    isplitl [G1]; · iexact G1
    isplitl [G2]; · iexact G2
    isplitl [G3]; · iexact G3
    isplitl [G4]; · iexact G4
    iexact G5
  isplitl [HO]; · iexact HO
  iintro ⟨H, HO⟩
  unfold GS
  ihave H := (Entails.of_eq (bigSep_sep' Finset.univ (fun g => outH out c (col g) (outU c g 10) (outV X W c g 10)) (fun g => GR X W c g 10))) $$ H
  icases H with ⟨Hout, Hall⟩
  ihave Hout := (close_cols X W out c) $$ Hout
  iapply HQ
  unfold post
  isplitl [Hall]; · iexact Hall
  isplitl [HO]; · iexact HO
  isplitl [Hz]; · iexact Hz
  isplitl [Hx]; · iexact Hx
  isplitl [Hw]; · iexact Hw
  iexact Hout

end Run

end Cert.KernelIdeal.Cube

end
-- ==== Proof.Ideal.Fund.lean ====
/- The launch's ghost state: every cell opened, the rights to complete them dealt to the devices that do, and what a
   device may wait for. -/
module

public import proofs.«01_k».proof.Proof.Ideal.Run

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

variable (X : Dev nD → Vec F S2048x256 .f32) (W : Dev nD → Vec F S256x2048 .f32)

/-! ## Families over the cells -/

theorem over_cells (Φ : CK → sProp 𝕄) : bigSep Finset.univ Φ = iprop(Φ none ∗ bigSep Finset.univ fun x => Φ (some x)) := by
  have h : (Finset.univ.erase none : Finset CK) = Finset.univ.map Function.Embedding.some := by
    ext x; cases x <;> simp
  rw [bigSep_univ_at Φ none, h, bigSep_map]; rfl

theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- A family over the copies' cells, array by array. -/
theorem over_copies (Φ : XK → sProp 𝕄) : bigSep Finset.univ Φ
    = iprop((bigSep Finset.univ fun p : Fin 6 × Fin 3 => Φ (0, p)) ∗ (bigSep Finset.univ fun p : Fin 6 × Fin 3 => Φ (1, p))
      ∗ (bigSep Finset.univ fun p : Fin 6 × Fin 3 => Φ (2, p)) ∗ bigSep Finset.univ fun p : Fin 6 × Fin 3 => Φ (3, p)) := by
  rw [bigSep_univ_prod, four]

/-- A family over devices and an index, each index's part dealt along its own permutation of the devices. -/
theorem around {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) _

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What the launch makes -/

abbrev cellAt (y : Dev nD × CK) : GSem nD τ sig := kcell y.1 y.2
theorem cellAt_injective : Function.Injective cellAt := fun y y' h =>
  Prod.ext (kcell_inj (x := y.2) (y := y'.2) h).1 (kcell_inj (x := y.2) (y := y'.2) h).2
def cubeCells : Finset (GSem nD τ sig) := Finset.univ.map ⟨cellAt, cellAt_injective⟩

/-- The duties: three on each barrier cell, one on each copy's. -/
abbrev Duty := Dev nD × (Fin 3 ⊕ XK)
def dutyAt : Duty → GSem nD τ sig × ℕ × Fin 3
  | (c, .inl a) => (kcell c none, 0, a)
  | (c, .inr x) => (kcell c (some x), 0, 0)
theorem dutyAt_injective : Function.Injective dutyAt := by
  rintro ⟨c, a | x⟩ ⟨c', a' | x'⟩ h
  · have h1 := (kcell_inj (congrArg Prod.fst h : kcell c none = kcell c' none)).1
    have h2 : a = a' := congrArg (fun t : GSem nD τ sig × ℕ × Fin 3 => t.2.2) h
    rw [h1, h2]
  · exact absurd (kcell_inj (congrArg Prod.fst h : kcell c none = kcell c' (some x'))).2 nofun
  · exact absurd (kcell_inj (congrArg Prod.fst h : kcell c (some x) = kcell c' none)).2 nofun
  · have h1 := kcell_inj (congrArg Prod.fst h : kcell c (some x) = kcell c' (some x'))
    rw [h1.1, Option.some.inj h1.2]
def cubeToks : Finset (GSem nD τ sig × ℕ × Fin 3) := Finset.univ.map ⟨dutyAt, dutyAt_injective⟩

def u₀ : UU :=
  (initOf (Pipeline.cells cfgs cellOf_inj) (Pipeline.launchToks cfgs cellOf_inj), initOf cubeCells cubeToks)

/-- The rights to complete device `c`'s own cells. -/
def toks (c : Dev nD) : sProp 𝕄 :=
  iprop((bigSep Finset.univ fun a : Fin 3 => dutyTok ER (kcell c none) 0 a) ∗ bigSep Finset.univ fun x : XK => tok c x)

/-- What device `c` is dealt at launch. -/
def G (c : Dev nD) : sProp 𝕄 :=
  iprop((bigSep Finset.univ fun x : CK => roundState ER (Rd X W) (kcell c x) 0)
    ∗ (bigSep Finset.univ fun x : CK => atPos ER (kcell c x) 0 ∅ 0) ∗ (bigSep Finset.univ fun x : CK => reached ER (kcell c x) 0) ∗ toks c)

theorem fund_cube : BI.own (ER (initOf cubeCells cubeToks)) ⊢ (|==> bigSep Finset.univ (G X W) : sProp 𝕄) := by
  have hX (Φ : GSem nD τ sig → sProp 𝕄) : bigSep cubeCells Φ = bigSep Finset.univ fun c : Dev nD => bigSep Finset.univ fun x : CK => Φ (kcell c x) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum]; rfl
  iintro HX
  imod (Rounds.fund ER (Rd X W) cubeCells cubeToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

theorem ownSemFacts : Pipeline.OwnSemFacts cfg0.spec osem := by decide +kernel

theorem ownSems_eq (c : Dev nD) : (Pipeline.ownSems0 (Ix := Unit) (Name := ℕ) (U := UU) (Lvl := ℕ) (Val := Elt F) (τ := τ) osem c : sProp 𝕄)
    = bigSep Finset.univ fun x : XK => semVal (kcell c (some x)) 0 := rfl
theorem unscopedSems_eq (c : Dev nD) : (unscopedSems0 c : sProp 𝕄) = semVal (kcell c none) 0 := by
  unfold unscopedSems0; rw [bigSep_eq_bigSepL_of_eq [SemLoc.reg barS] (by decide +kernel) (by decide)]; rfl
theorem sems_eq (c : Dev nD) :
    (bigSep Finset.univ fun x : CK => semVal (kcell c x) 0 : sProp 𝕄)
      = iprop(unscopedSems0 c ∗ Pipeline.ownSems0 (Ix := Unit) (Name := ℕ) (U := UU) (Lvl := ℕ) (Val := Elt F) (τ := τ) osem c) := by
  rw [over_cells, unscopedSems_eq, ownSems_eq]

/-- A device's cells, opened. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun x : CK => iprop(∃ κ : ℕ, cellInv ER (Rd X W) κ (kcell c x)))
          ∗ (bigSep Finset.univ fun x : CK => atPos ER (kcell c x) 0 ∅ 0) ∗ (bigSep Finset.univ fun x : CK => reached ER (kcell c x) 0) ∗ toks c) := by
  unfold G
  iintro ⟨Hos, Hus, Hst, Hat, Hre, Htok⟩
  ihave Hv := (Entails.of_eq (sems_eq (F := F) c).symm) $$ [Hos Hus]
  · isplitl [Hus] <;> iassumption
  imod (show iprop((bigSep Finset.univ fun x : CK => semVal (kcell c x) 0) ∗ bigSep Finset.univ fun x : CK => roundState ER (Rd X W) (kcell c x) 0)
      ⊢ (|={Set.univ}=> bigSep Finset.univ fun x : CK => iprop(∃ κ : ℕ, cellInv ER (Rd X W) κ (kcell c x)) : sProp 𝕄) from by
        rw [← bigSep_sep']
        exact (bigSep_mono fun x _ => (Rounds.body_intro ER (Rd X W) (kcell c x)).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  iexact Htok

/-! ## The rights, dealt to who uses them -/

/-- The rights device `c` uses. -/
def payToks (c : Dev nD) : sProp 𝕄 :=
  iprop(bigSep Finset.univ (barTok (F := F) c)
    ∗ (bigSep Finset.univ fun p : Fin 6 × Fin 3 => tok c (0, p)) ∗ (bigSep Finset.univ fun p : Fin 6 × Fin 3 => tok (peer (ax p.1 p.2) c) (1, p))
    ∗ (bigSep Finset.univ fun p : Fin 6 × Fin 3 => tok c (2, p)) ∗ (bigSep Finset.univ fun p : Fin 6 × Fin 3 => tok (peer (ax p.1 p.2.rev) c) (3, p)))

theorem toks_around : (bigSep Finset.univ fun c : Dev nD => (toks c : sProp 𝕄)) = bigSep Finset.univ fun c : Dev nD => payToks c := by
  unfold toks payToks
  simp only [over_copies, bigSep_sep']
  rw [around peerEquiv (fun c a => (dutyTok ER (kcell c none) 0 a : sProp 𝕄)),
    around (fun p : Fin 6 × Fin 3 => peerEquiv (ax p.1 p.2)) (fun c p => (tok c (1, p) : sProp 𝕄)),
    around (fun p : Fin 6 × Fin 3 => peerEquiv (ax p.1 p.2.rev)) (fun c p => (tok c (3, p) : sProp 𝕄))]
  rfl

/-- What every device knows of every cell. -/
def records (K : Dev nD × CK → ℕ) : sProp 𝕄 :=
  iprop((bigSep Finset.univ fun y : Dev nD × CK => cellInv ER (Rd X W) (K y) (kcell y.1 y.2))
    ∗ bigSep Finset.univ fun y : Dev nD × CK => reached ER (kcell y.1 y.2) 0)

instance records_persistent (K : Dev nD × CK → ℕ) : BI.Persistent (records X W K) := by unfold records; infer_instance

/-- A device's start. -/
def G' (c : Dev nD) : sProp 𝕄 :=
  iprop(∃ K, records X W K ∗ (bigSep Finset.univ fun x : CK => atPos ER (kcell c x) 0 ∅ 0) ∗ payToks c)

theorem regroup :
    (bigSep Finset.univ fun c : Dev nD => iprop((bigSep Finset.univ fun x : CK => iprop(∃ κ : ℕ, cellInv ER (Rd X W) κ (kcell c x)))
          ∗ (bigSep Finset.univ fun x : CK => atPos ER (kcell c x) 0 ∅ 0) ∗ (bigSep Finset.univ fun x : CK => reached ER (kcell c x) 0) ∗ toks c) : sProp 𝕄)
      ⊢ bigSep Finset.univ (G' X W) := by
  rw [bigSep_sep', bigSep_sep', bigSep_sep', ← bigSep_univ_prod (fun y : Dev nD × CK => iprop(∃ κ : ℕ, cellInv ER (Rd X W) κ (kcell y.1 y.2))),
    ← bigSep_univ_prod (fun y : Dev nD × CK => (reached ER (kcell y.1 y.2) 0 : sProp 𝕄)), toks_around]
  iintro ⟨HI, Hat, #HR, Htok⟩
  ihave HK := (BI.bigSep_exists_pi Finset.univ (fun (y : Dev nD × CK) (κ : ℕ) => (cellInv ER (Rd X W) κ (kcell y.1 y.2) : sProp 𝕄))) $$ HI
  icases HK with ⟨%K, #HI⟩
  have hg : ∀ c ∈ (Finset.univ : Finset (Dev nD)), iprop(records X W K ∗ ((bigSep Finset.univ fun x : CK => atPos ER (kcell c x) 0 ∅ 0) ∗ payToks c)) ⊢ G' X W c := fun c _ => by
    unfold G'
    iintro H
    iexists K
    iexact H
  iapply (with_all hg)
  isplitr
  · unfold records
    isplitr; · iexact HI
    iexact HR
  · rw [bigSep_sep']
    isplitl [Hat]; · iexact Hat
    iexact Htok

/-- The cells of all devices opened at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## What a device may wait for -/

theorem peer_eq_iff (a : Fin 3) (c d : Dev nD) : Iff (c = peer a d) (d = peer a c) :=
  ⟨fun h => by rw [h, peer_peer], fun h => by rw [h, peer_peer]⟩

/-- Whether a step pays cells of the kind `y`. -/
abbrev pays (y : XK) (p : Fin 6 × Fin 10) : Bool := decide ((payX p.1 p.2).map Prod.snd = some y)

theorem tally_at (a : Fin 3) (c d : Dev nD) (x y : CK) (n : ℕ) :
    (tallyAt (kcell (peer a d) x) () n : CellTallies nD τ sig Unit) (kcell c y) () = if d = peer a c then (if y = x then n else 0) else 0 := by
  rw [tallyAt_apply]
  by_cases h : d = peer a c
  · rw [if_pos h]
    by_cases hx : y = x
    · rw [if_pos hx, if_pos ⟨by rw [hx, h, peer_peer], rfl⟩]
    · rw [if_neg hx, if_neg fun e => hx (kcell_inj e.1).2]
  · rw [if_neg h, if_neg fun e => h ((peer_eq_iff a c d).mp (kcell_inj e.1).1)]

theorem tally_sum (a : Fin 3) (c : Dev nD) (x y : CK) (n : ℕ) :
    ∑ d : Dev nD, (tallyAt (kcell (peer a d) x) () n : CellTallies nD τ sig Unit) (kcell c y) () = if y = x then n else 0 := by
  rw [Finset.sum_congr rfl fun d _ => tally_at a c d x y n, Finset.sum_ite_eq', if_pos (Finset.mem_univ _)]

theorem oweOf_sum (c : Dev nD) (y : XK) (p : Fin 6 × Fin 10) :
    ∑ d : Dev nD, oweOf d p (kcell c (some y)) () = if pays y p then amt y else 0 := by
  unfold oweOf pays
  rcases payX p.1 p.2 with _ | ⟨a, x⟩
  · simp
  · simp only [Option.map_some, Option.some.injEq, decide_eq_true_eq]
    rw [tally_sum]
    by_cases h : x = y
    · subst h; rw [if_pos rfl, if_pos rfl]
    · rw [if_neg h, if_neg fun e => h (Option.some.inj e).symm]

theorem owe_sum (c : Dev nD) (y : XK) : ∀ l : List (Fin 6 × Fin 10),
    ∑ d : Dev nD, owe d l (kcell c (some y)) () = amt y * l.countP (pays y)
  | [] => by simp [owe]
  | p :: l => by
    unfold owe
    rw [Finset.sum_congr rfl fun d _ => show (owe d l + oweOf d p) (kcell c (some y)) () = owe d l (kcell c (some y)) () + oweOf d p (kcell c (some y)) () from rfl,
      Finset.sum_add_distrib, owe_sum c y l, oweOf_sum, List.countP_cons]
    split
    · rw [Nat.mul_add, Nat.mul_one]
    · rw [Nat.add_zero, Nat.add_zero]

theorem pays_once : ∀ p : Fin 6 × Fin 3, all.countP (pays (1, p)) = 1 ∧ all.countP (pays (3, p)) = 1 := by decide +kernel

theorem bar_zero (c d : Dev nD) (a : Fin 3) (y : XK) : oweBar d a (kcell c (some y)) () = 0 :=
  (tally_at a c d none (some y) 1).trans (by split <;> rfl)
theorem bar_one (c : Dev nD) (a : Fin 3) : ∑ d : Dev nD, oweBar d a (kcell c none) () = 1 := tally_sum a c none none 1
theorem owe_zero (c d : Dev nD) (l : List (Fin 6 × Fin 10)) : owe d l (kcell c none) () = 0 := by
  by_contra h
  obtain ⟨p, -, d', x, e, -⟩ := owe_pos (Nat.pos_of_ne_zero h)
  exact absurd (kcell_inj e).2 nofun

theorem owed_apply (d : Dev nD) (g : GSem nD τ sig) :
    O₀ d g () = owe d all g () + oweBar d 2 g () + oweBar d 1 g () + oweBar d 0 g () := rfl

theorem owed_copy (c d : Dev nD) (y : XK) : O₀ d (kcell c (some y)) () = owe d all (kcell c (some y)) () := by
  rw [owed_apply, bar_zero, bar_zero, bar_zero, Nat.add_zero]

theorem launch_copy (c : Dev nD) (y : XK) (h : all.countP (pays y) = 1) :
    tallyOn (kcell c (some y)) (launchCredit (Pipeline.owing O₀) 0 (kcell c (some y))) = (tallyAt (kcell c (some y)) () (amt y) : CellTallies nD τ sig Unit) := by
  unfold tallyAt; refine congrArg _ (Finsupp.ext fun u => ?_); cases u
  rw [Pipeline.launchCredit_owing, Finsupp.single_eq_same, Finset.sum_congr rfl fun d _ => owed_copy c d y,
    owe_sum, h, Nat.mul_one]

theorem launch_bar (c : Dev nD) :
    tallyOn (kcell c none) (launchCredit (Pipeline.owing O₀) 0 (kcell c none)) = (tallyAt (kcell c none) () 3 : CellTallies nD τ sig Unit) := by
  unfold tallyAt; refine congrArg _ (Finsupp.ext fun u => ?_); cases u
  rw [Pipeline.launchCredit_owing, Finsupp.single_eq_same, Finset.sum_congr rfl fun d _ => (owed_apply d _).trans (by rw [owe_zero]),
    Finset.sum_add_distrib, Finset.sum_add_distrib, Finset.sum_add_distrib, bar_one, bar_one, bar_one, Finset.sum_const_zero]

theorem csem_injective : Function.Injective csem := fun _ _ => csem_inj

theorem creds (c : Dev nD) :
    (Pipeline.launchCred O₀ c : sProp 𝕄) ⊢ iprop(cred (tallyAt (kcell c none) () 3)
      ∗ (bigSep Finset.univ fun p : Fin 6 × Fin 3 => crd c (1, p)) ∗ bigSep Finset.univ fun p : Fin 6 × Fin 3 => crd c (3, p)) := by
  have h : (Pipeline.launchCred O₀ c : sProp 𝕄) ⊢ bigSep (Finset.univ.map ⟨csem, csem_injective⟩)
      fun sm : SemLoc sig => cred (tallyOn ((c.tc : Thread nD τ), sm) (launchCredit (Pipeline.owing O₀) 0 ((c.tc : Thread nD τ), sm))) :=
    bigSep_subset (Finset.subset_univ _)
  refine h.trans ?_
  rw [bigSep_map]
  rw [over_cells, over_copies]
  have h1 : (bigSep Finset.univ fun p : Fin 6 × Fin 3 => (cred (tallyOn (kcell c (some (1, p))) (launchCredit (Pipeline.owing O₀) 0 (kcell c (some (1, p))))) : sProp 𝕄))
      = bigSep Finset.univ fun p : Fin 6 × Fin 3 => crd c (1, p) := bigSep_congr fun p _ => by rw [launch_copy c (1, p) (pays_once p).1]
  have h3 : (bigSep Finset.univ fun p : Fin 6 × Fin 3 => (cred (tallyOn (kcell c (some (3, p))) (launchCredit (Pipeline.owing O₀) 0 (kcell c (some (3, p))))) : sProp 𝕄))
      = bigSep Finset.univ fun p : Fin 6 × Fin 3 => crd c (3, p) := bigSep_congr fun p _ => by rw [launch_copy c (3, p) (pays_once p).2]
  rw [← launch_bar, ← h1, ← h3]
  iintro ⟨H, -, H1, -, H3⟩
  isplitl [H]; · iexact H
  isplitl [H1]; · iexact H1
  iexact H3

/-! ## The buffers -/

/-- The kernel's own buffers: to send from, to receive into, to gather in. -/
abbrev BK := (Fin 6 × Fin 3) ⊕ (Fin 6 × Fin 3) ⊕ Fin 6
def bref : BK → Ref sig .tc
  | .inl p => (sendM p.1 p.2).view.ref
  | .inr (.inl p) => (recvM p.1 p.2).view.ref
  | .inr (.inr g) => (agM g).view.ref
theorem bref_injective : Function.Injective bref := by
  intro b b'
  revert b b'
  decide +kernel

theorem send_whole : ∀ g k, (sendM g k).view.setOn Finset.univ = Finset.univ
  | 0, 0 | 0, 1 | 0, 2 | 1, 0 | 1, 1 | 1, 2 | 2, 0 | 2, 1 | 2, 2
  | 3, 0 | 3, 1 | 3, 2 | 4, 0 | 4, 1 | 4, 2 | 5, 0 | 5, 1 | 5, 2 => View.set_whole _
theorem recv_whole : ∀ g k, (recvM g k).view.setOn Finset.univ = Finset.univ
  | 0, 0 | 0, 1 | 0, 2 | 1, 0 | 1, 1 | 1, 2 | 2, 0 | 2, 1 | 2, 2
  | 3, 0 | 3, 1 | 3, 2 | 4, 0 | 4, 1 | 4, 2 | 5, 0 | 5, 1 | 5, 2 => View.set_whole _
theorem ag_whole : ∀ g, (agM g).view.setOn Finset.univ = Finset.univ
  | 0 | 1 | 2 | 3 | 4 | 5 => View.set_whole _

/-- A whole buffer at whatever contents. -/
abbrev anyAt (c : Dev nD) (b : Ref sig .tc) : sProp 𝕄 :=
  iprop(∃ f : Buf (Elt F) ((c.tc : Thread nD τ).loc b), ((c.tc : Thread nD τ).loc b) ↦{fullShare} f)

theorem any_held (c : Dev nD) {sh : Shape} {e : EltTy} (m : Memref sig .tc .vmem sh e) (h : m.view.setOn Finset.univ = Finset.univ) :
    (anyAt c m.view.ref : sProp 𝕄) = heldAny (Val := Elt F) (c : Thread nD τ) m Finset.univ fullShare := by
  have h1 : (anyAt c m.view.ref : sProp 𝕄) ⊢ heldAny (Val := Elt F) (c : Thread nD τ) m Finset.univ fullShare := by
    unfold heldAny held
    rw [h]
    iintro ⟨%f, H⟩
    iexists m.view.read (Elt F) f
    iexists f
    isplitr; · ipureintro; exact fun _ _ => rfl
    iexact H
  have h2 : (heldAny (Val := Elt F) (c : Thread nD τ) m Finset.univ fullShare : sProp 𝕄) ⊢ anyAt c m.view.ref := by
    unfold heldAny held
    rw [h]
    iintro ⟨%Y, %f, -, H⟩
    iexists f
    iexact H
  exact h1.antisymm h2

/-- A device's own buffers. -/
def bufs (c : Dev nD) : sProp 𝕄 :=
  iprop((bigSep Finset.univ fun p : Fin 6 × Fin 3 => heldAny (Val := Elt F) (c : Thread nD τ) (sendM p.1 p.2) Finset.univ fullShare)
    ∗ (bigSep Finset.univ fun p : Fin 6 × Fin 3 => heldAny (Val := Elt F) (c : Thread nD τ) (recvM p.1 p.2) Finset.univ fullShare)
    ∗ bigSep Finset.univ fun g : Fin 6 => heldAny (Val := Elt F) (c : Thread nD τ) (agM g) Finset.univ fullShare)

/-- The scoped buffers that are no window's staging. -/
abbrev rest0 : Finset (Ref sig .tc) := (Finset.univ.filter fun b : Ref sig .tc => b.isScoped) \ Finset.univ.image (Pipeline.stageRef cfg0.spec)
abbrev own0 : Finset (Ref sig .tc) := Finset.univ.map ⟨bref, bref_injective⟩
def others (c : Dev nD) : sProp 𝕄 := bigSep (rest0 \ own0) fun b => anyAt c b

theorem own_sub : own0 ⊆ rest0 := by
  have h : ∀ b, bref b ∈ rest0 := by decide +kernel
  intro b hb
  obtain ⟨x, -, rfl⟩ := Finset.mem_map.mp hb
  exact h x

theorem scoped_eq (c : Dev nD) : (Pipeline.scopedRest (Ix := Unit) (Name := ℕ) (U := UU) (Lvl := ℕ) (Val := Elt F) cfg0.spec c : sProp 𝕄)
    = iprop(bufs c ∗ others c) := by
  have h : rest0 = own0 ∪ (rest0 \ own0) := (Finset.union_sdiff_of_subset own_sub).symm
  show bigSep rest0 (fun b => anyAt c b) = _
  have e : (bigSep own0 (fun b => anyAt c b) : sProp 𝕄) = bufs c := by
    unfold own0 bufs
    rw [bigSep_map, bigSep_univ_sum, bigSep_univ_sum]
    refine congrArg₂ _ (bigSep_congr fun p _ => any_held c _ (send_whole p.1 p.2)) (congrArg₂ _ (bigSep_congr fun p _ => any_held c _ (recv_whole p.1 p.2))
      (bigSep_congr fun g _ => any_held c _ (ag_whole g)))
  unfold others
  rw [← e]
  exact (congrArg (fun s => bigSep s fun b => (anyAt c b : sProp 𝕄)) h).trans (bigSep_union Finset.disjoint_sdiff)

end Cert.KernelIdeal.Cube

end
-- ==== Proof.Ideal.Launch.lean ====
/- The launch: the pipeline's data, its body obligation from a device's run, and the run of the whole program. -/
module

public import proofs.«01_k».proof.Proof.Ideal.Fund
public import proofs.«01_k».proof.Proof.Gen.KernelIdeal.Frame
public import Idealize.ShloMosaic.Lib.Pipeline.CollectiveSegs

@[expose] public section

noncomputable section

namespace Cert.KernelIdeal.Cube

open Cert.KernelIdeal.Gen Cert.CubeLib
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

section Pairs
variable (X : Dev nD → Vec F S2048x256 .f32) (W : Dev nD → Vec F S256x2048 .f32) (c : Dev nD)

theorem nest (Φ : Fin 6 → Fin 3 → sProp 𝕄) :
    (bigSep Finset.univ fun g => bigSep Finset.univ fun k => Φ g k) = bigSep Finset.univ fun p : Fin 6 × Fin 3 => Φ p.1 p.2 :=
  (bigSep_univ_prod fun p : Fin 6 × Fin 3 => Φ p.1 p.2).symm

/-- What a device is dealt is what its run starts from. -/
theorem pre_intro (W' : Waits sig Unit) :
    iprop(owes (c : Thread nD τ) (O₀ c) W' ∗ (bigSep Finset.univ fun x : CK => atPos ER (kcell c x) 0 ∅ 0) ∗ payToks c
        ∗ cred (tallyAt (kcell c none) () 3) ∗ (bigSep Finset.univ fun p : Fin 6 × Fin 3 => crd c (1, p)) ∗ (bigSep Finset.univ fun p : Fin 6 × Fin 3 => crd c (3, p))
        ∗ bufs c)
      ⊢ (pre c W' : sProp 𝕄) := by
  unfold pre grpPre rsPre agPre payToks bufs
  simp only [bigSep_sep', nest]
  rw [over_cells, over_copies]
  iintro ⟨HO, ⟨Ab, A0, A1, A2, A3⟩, ⟨Tb, T0, T1, T2, T3⟩, Cb, C1, C3, Bs, Br, Ba⟩
  isplitl [HO]; · iexact HO
  isplitl [Tb]; · iexact Tb
  isplitl [Cb]; · iexact Cb
  isplitl [Ab]; · iexact Ab
  isplitl [A0 A1 A2 A3 T0 T1 T2 T3 C1 C3 Bs]
  · isplitl [A0 A1 T0 T1 C1 Bs]
    · isplitl [T0]; · iexact T0
      isplitl [T1]; · iexact T1
      isplitl [Bs]; · iexact Bs
      isplitl [A0]; · iexact A0
      isplitl [A1]; · iexact A1
      iexact C1
    isplitl [T2]; · iexact T2
    isplitl [T3]; · iexact T3
    isplitl [A2]; · iexact A2
    isplitl [A3]; · iexact A3
    iexact C3
  isplitl [Br]; · iexact Br
  iexact Ba

theorem group_end (g : Fin 6) : GR X W c g 10
    ⊢ iprop((bigSep Finset.univ fun k => rsSt (F := F) c g k 3) ∗ (bigSep Finset.univ fun j => agSt (F := F) c g j 3)
      ∗ heldAny (Val := Elt F) (c : Thread nD τ) (agM g) Finset.univ fullShare) := by
  dsimp only [GR, cps]
  rw [three, three]
  iintro ⟨⟨H0, H1, H2, H3, H4, H5⟩, Ha⟩
  isplitl [H0 H1 H2]
  · isplitl [H0]; · iexact H0
    isplitl [H1]; · iexact H1
    iexact H2
  isplitl [H3 H4 H5]
  · isplitl [H3]; · iexact H3
    isplitl [H4]; · iexact H4
    iexact H5
  iapply held_any $$ Ha

/-- A run's end leaves the buffers and every counter at zero. -/
theorem groups_end : iprop((bigSep Finset.univ fun g => GR X W c g 10) ∗ semVal (kcell c none) 0)
    ⊢ (iprop(bufs c ∗ bigSep Finset.univ fun x : CK => semVal (kcell c x) 0) : sProp 𝕄) := by
  have h := each (group_end X W c)
  unfold bufs
  rw [over_cells, over_copies]
  simp only [rsSt, agSt, bigSep_sep', nest] at h
  iintro ⟨H, Hb⟩
  ihave H := h $$ H
  icases H with ⟨⟨D0, D1, Bs, Br⟩, ⟨D2, D3⟩, Ba⟩
  isplitl [Bs Br Ba]
  · isplitl [Bs]; · iexact Bs
    isplitl [Br]; · iexact Br
    iexact Ba
  isplitl [Hb]; · iexact Hb
  isplitl [D0]; · iexact D0
  isplitl [D1]; · iexact D1
  isplitl [D2]; · iexact D2
  iexact D3

end Pairs

/-! ## The pipeline's data -/

variable (m : (ℓ : Loc nD τ sig) → Buf (Elt F) ℓ) (ρ : Dev nD → PrngReg)

/-- The memory at launch. -/
abbrev atLaunch : MemSt nD τ sig (Elt F) := ⟨m, fun _ => 0, ρ⟩

/-- The blocks a device is given. -/
def xIn (c : Dev nD) : Vec F S2048x256 .f32 := (win0_0.blk (0 : Fin 1)).view.read (Elt F) (m ((c : Thread nD τ).loc main_arg0))
def wIn (c : Dev nD) : Vec F S256x2048 .f32 := (win0_1.blk (0 : Fin 1)).view.read (Elt F) (m ((c : Thread nD τ).loc main_arg1))
/-- The result. -/
def yOut (c : Dev nD) : Vec F S2048x2048 .f32 := outVal (xIn m) (wIn m) c

/-- What a device's body starts from. -/
def start (c : Dev nD) : sProp 𝕄 :=
  iprop(G' (xIn m) (wIn m) c ∗ (cred (tallyAt (kcell c none) () 3)
      ∗ (bigSep Finset.univ fun p : Fin 6 × Fin 3 => crd c (1, p)) ∗ bigSep Finset.univ fun p : Fin 6 × Fin 3 => crd c (3, p)) ∗ levAts L lv)
def Φ₀ (c : Dev nD) : sProp 𝕄 := iprop(start m c ∗ bufs c ∗ others c)
/-- What it leaves. -/
def Φ₁ (c : Dev nD) : sProp 𝕄 := iprop((bufs c ∗ bigSep Finset.univ fun x : CK => semVal (kcell c x) 0) ∗ others c)

def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => xIn m c
    | ⟨1, _⟩ => wIn m c
    | ⟨2, _⟩ => yOut m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_held (c : Dev nD) (b : Ref sig .tc) (Y : b.ty.Contents (Elt F)) :
    (owns (Ix := Unit) (Name := ℕ) (U := UU) (Lvl := ℕ) (c : Thread nD τ) (Memref.whole b) fullShare Y : sProp 𝕄)
      = held (c : Thread nD τ) (Memref.whole b) Finset.univ fullShare Y := by
  rw [owns_whole]
  exact (held_of_whole (c : Thread nD τ) b fullShare Y).antisymm (whole_of_held (c : Thread nD τ) b fullShare Y)

/-! ## The body -/

abbrev xM : Memref sig .tc .vmem S2048x256 .f32 := Memref.whole cc0_stg0_0
abbrev wM : Memref sig .tc .vmem S256x2048 .f32 := Memref.whole cc0_stg1_0
abbrev oM : Memref sig .tc .vmem S2048x2048 .f32 := Memref.whole cc0_stg2_0

def bodyPre (c : Dev nD) : sProp 𝕄 :=
  iprop(Φ₀ m c ∗ (dats m ρ 0 c).owesAt () t0_0.castSucc
    ∗ (∃ d, held (c : Thread nD τ) xM Finset.univ fullShare ((dats m ρ 0 c).before (0 : Fin 3) t0_0 d))
    ∗ (∃ d, held (c : Thread nD τ) wM Finset.univ fullShare ((dats m ρ 0 c).before (1 : Fin 3) t0_0 d))
    ∗ (∃ d, held (c : Thread nD τ) oM Finset.univ fullShare ((dats m ρ 0 c).before (2 : Fin 3) t0_0 d)))
def bodyPost (c : Dev nD) : sProp 𝕄 :=
  iprop(Φ₁ c ∗ (dats m ρ 0 c).owesAt () t0_0.succ
    ∗ held (c : Thread nD τ) xM Finset.univ fullShare (xIn m c)
    ∗ held (c : Thread nD τ) wM Finset.univ fullShare (wIn m c)
    ∗ held (c : Thread nD τ) oM Finset.univ fullShare (yOut m c))

theorem before_x (c : Dev nD) (d) : (dats m ρ 0 c).before (0 : Fin 3) t0_0 d = xIn m c := by
  unfold Dat.before; rw [if_pos (fetch0_0 t0_0)]; rfl
theorem before_w (c : Dev nD) (d) : (dats m ρ 0 c).before (1 : Fin 3) t0_0 d = wIn m c := by
  unfold Dat.before; rw [if_pos (fetch0_1 t0_0)]; rfl

theorem sound_body (c : Dev nD) :
    bodyPre m ρ c ⊢ run c (prog oM xM wM) (fun _ => bodyPost m ρ c) := by
  unfold bodyPre Φ₀ start G' run prog
  simp only [Prog.lift, Prog.bind_op, Prog.bind_ret, wp_deviceId, before_x, before_w]
  unfold Dat.owesAt Pipeline.owesWithin
  iintro ⟨⟨⟨⟨%K, #HR, Hat, Htok⟩, ⟨Cb, C1, C3⟩, #Hlev⟩, Hbufs, Hoth⟩, ⟨%W', %hW, HO⟩, ⟨%d0, Hx⟩, ⟨%d1, Hw⟩, ⟨%d2, Hout⟩⟩
  iapply (wp_prog (xIn m) (wIn m) K oM c xM wM W' ((dats m ρ 0 c).before (2 : Fin 3) t0_0 d2))
  isplitr
  · unfold records ctx
    icases HR with ⟨#H1, #H2⟩
    isplitr; · iexact H1
    isplitr; · iexact H2
    iexact Hlev
  isplitl [HO Hat Htok Cb C1 C3 Hbufs]
  · iapply (pre_intro c W')
    isplitl [HO]; · iexact HO
    isplitl [Hat]; · iexact Hat
    isplitl [Htok]; · iexact Htok
    isplitl [Cb]; · iexact Cb
    isplitl [C1]; · iexact C1
    isplitl [C3]; · iexact C3
    iexact Hbufs
  isplitl [Hx]; · iexact Hx
  isplitl [Hw]; · iexact Hw
  isplitl [Hout]; · iexact Hout
  unfold post Owes
  iintro ⟨HG, ⟨%W'', HO⟩, Hb, Hx, Hw, Hout⟩
  unfold bodyPost Φ₁ Dat.owesAt Pipeline.owesWithin
  isplitl [HG Hb Hoth]
  · isplitl [HG Hb]
    · iapply (groups_end (xIn m) (wIn m) c)
      isplitl [HG]; · iexact HG
      iexact Hb
    iexact Hoth
  isplitl [HO]
  · iexists W''
    isplitr; · ipureintro; exact fun _ _ => Or.inl trivial
    iexact HO
  isplitl [Hx]; · iexact Hx
  isplitl [Hw]; · iexact Hw
  iexact Hout

theorem stage_x : win0_0.stage (cfg0.slots t0_0 0) = xM := rfl
theorem stage_w : win0_1.stage (cfg0.slots t0_0 1) = wM := rfl
theorem stage_o : win0_2.stage (cfg0.slots t0_0 2) = oM := rfl

theorem body_row : (defs₀ (F := F) .tc cfg0.body (cfg0.bodyArgs t0_0 (cfg0.slots t0_0)) : P (F := F)) = prog oM xM wM := by
  have h : (defs₀ (F := F) .tc cfg0.body (cfg0.bodyArgs t0_0 (cfg0.slots t0_0)) : P (F := F)) = bodyAt0 t0_0 := by
    unfold defs₀; rw [Defs.onTc_tc]
  rw [h, body_eq, stage_x, stage_w, stage_o]

theorem any_owns (c : Dev nD) (b : Ref sig .tc) {D : Type} (Y : D → b.ty.Contents (Elt F)) :
    (iprop(∃ d, owns (Ix := Unit) (Name := ℕ) (U := UU) (Lvl := ℕ) (c : Thread nD τ) (Memref.whole b) fullShare (Y d)) : sProp 𝕄)
      = iprop(∃ d, held (c : Thread nD τ) (Memref.whole b) Finset.univ fullShare (Y d)) := by
  simp only [owns_held]

theorem pre_owns (c : Dev nD) : iprop(Φ₀ m c ∗ (dats m ρ 0 c).owesAt () t0_0.castSucc
    ∗ (∃ d, owns (c : Thread nD τ) (Memref.whole cc0_stg0_0) fullShare ((dats m ρ 0 c).before (0 : Fin 3) t0_0 d))
    ∗ (∃ d, owns (c : Thread nD τ) (Memref.whole cc0_stg1_0) fullShare ((dats m ρ 0 c).before (1 : Fin 3) t0_0 d))
    ∗ (∃ d, owns (c : Thread nD τ) (Memref.whole cc0_stg2_0) fullShare ((dats m ρ 0 c).before (2 : Fin 3) t0_0 d))) = bodyPre m ρ c :=
  congrArg₂ _ rfl (congrArg₂ _ rfl (congrArg₂ _ (any_owns c cc0_stg0_0 _) (congrArg₂ _ (any_owns c cc0_stg1_0 _) (any_owns c cc0_stg2_0 _))))

theorem post_owns (c : Dev nD) : bodyPost m ρ c = iprop(Φ₁ c ∗ (dats m ρ 0 c).owesAt () t0_0.succ
    ∗ owns (c : Thread nD τ) (Memref.whole cc0_stg0_0) fullShare (xIn m c)
    ∗ owns (c : Thread nD τ) (Memref.whole cc0_stg1_0) fullShare (wIn m c)
    ∗ owns (c : Thread nD τ) (Memref.whole cc0_stg2_0) fullShare (yOut m c)) :=
  congrArg₂ _ rfl (congrArg₂ _ rfl (congrArg₂ _ (owns_held c cc0_stg0_0 (xIn m c)).symm
    (congrArg₂ _ (owns_held c cc0_stg1_0 (wIn m c)).symm (owns_held c cc0_stg2_0 (yOut m c)).symm)))

theorem body_obligation (c : Dev nD) : BodyObligation (dats (F := F) m ρ 0 c) (defs₀ (F := F)) 𝒱₀ () Set.univ := fun t => by
  rw [fin_N0 t, bigSep_W0, bigSep_W0, body_row]
  exact triple_restated (sound_body m ρ c) rfl (Entails.of_eq (pre_owns m ρ c)) fun _ => Entails.of_eq (post_owns m ρ c)

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scoped_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq]
  unfold Φ₁
  rw [sems_eq]
  iintro ⟨⟨Hb, Hu, Ho⟩, Hr⟩
  isplitl [Hu]; · iexact Hu
  isplitl [Ho]; · iexact Ho
  isplitl [Hb]; · iexact Hb
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution of the program terminates; at the end each device's result holds the closed form, its
    arguments what they held, and every counter is zero. -/
theorem run_main : θ_run defs (onTc (τ := τ) (main (F := F))) (atLaunch m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (wIn m)) (G' := G' (xIn m) (wIn m)) (u₀ := u₀)
    (hu₀ := by
      unfold u₀
      iintro Hu
      ihave H := (ownU_pair _ _) $$ Hu
      icases H with ⟨HP, HX⟩
      imod (fund_cube (xIn m) (wIn m)) $$ HX with HG
      imodintro
      isplitl [HP] <;> iassumption)
    (hglob := glob (xIn m) (wIn m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.KernelIdeal.Cube

end
-- ==== Proof.Ideal.Total.lean ====
/- The values over the extended reals: after three exchanges every device's partial sum is the whole product, and
   the gated product is the reference's quotient. -/
module

public import proofs.«01_k».proof.Proof.Ideal.Values
public import Idealize.ShloMosaic.Lib.MatmulPlain
public import Idealize.ShloMosaic.Lib.IdealHost
public import Idealize.ShloMosaic.Lib.Layout

@[expose] public section

noncomputable section

namespace Cert.KernelIdeal.Cube

open Idealize.ShloMosaic Idealize.ShloMosaic.ValueIdx Idealize.SL.Sem
open Cert.KernelIdeal.Gen Cert.CubeLib
open scoped BigOperators

/-! ## The sum over the cube -/

/-- The devices whose products a group's partial sum at `c` has taken in, in the order of the exchanges. -/
def around8 (g : Fin 6) (c : Fin 8) : Fin 8 → Fin 8
  | 0 => c
  | 1 => peer (ax g 0) c
  | 2 => peer (ax g 1) c
  | 3 => peer (ax g 0) (peer (ax g 1) c)
  | 4 => peer (ax g 2) c
  | 5 => peer (ax g 0) (peer (ax g 2) c)
  | 6 => peer (ax g 1) (peer (ax g 2) c)
  | 7 => peer (ax g 0) (peer (ax g 1) (peer (ax g 2) c))

/-- They are the eight devices, each once. -/
theorem around8_inj : ∀ g c i j, around8 g c i = around8 g c j → i = j := by decide +kernel
theorem around8_bij (g c) : Function.Bijective (around8 g c) :=
  Finite.injective_iff_bijective.mp fun i j => around8_inj g c i j

variable (X : Dev nD → Vec Ideal S2048x256 .f32) (W : Dev nD → Vec Ideal S256x2048 .f32)

theorem fold_apply (a : Fin 3) (A : Dev nD → Vec Ideal S2048x2048 .f32) (c : Dev nD) (i : OutIdx) :
    fold a A c i = (A c i + A (peer a c) i : EReal) := rfl

/-- After the three exchanges: the sum of the devices' products. -/
theorem acc_total (g : Fin 6) (c : Dev nD) (i : OutIdx) : acc X W g 3 c i = (∑ d : Fin 8, prod X W d i : EReal) := by
  rw [← (around8_bij g c).sum_comp fun d => (prod X W d i : EReal), Fin.sum_univ_eight]
  show fold (ax g 2) (fold (ax g 1) (fold (ax g 0) (prod X W))) c i = _
  rw [fold_apply, fold_apply, fold_apply, fold_apply, fold_apply, fold_apply, fold_apply]
  show (_ : EReal) = prod X W c i + prod X W (peer (ax g 0) c) i + prod X W (peer (ax g 1) c) i
    + prod X W (peer (ax g 0) (peer (ax g 1) c)) i + prod X W (peer (ax g 2) c) i
    + prod X W (peer (ax g 0) (peer (ax g 2) c)) i + prod X W (peer (ax g 1) (peer (ax g 2) c)) i
    + prod X W (peer (ax g 0) (peer (ax g 1) (peer (ax g 2) c))) i
  simp only [add_assoc]

/-- Each device's result is the gated sum, whichever device gated it. -/
theorem outVal_total (c : Dev nD) (i : OutIdx) :
    outVal X W c i = ((∑ d : Fin 8, prod X W d i : EReal) * Ideal.logistic (∑ d : Fin 8, prod X W d i : EReal) : EReal) := by
  have h : ∀ (g : Fin 6) (d : Dev nD), fin X W g d i
      = ((∑ d : Fin 8, prod X W d i : EReal) * Ideal.logistic (∑ d : Fin 8, prod X W d i : EReal) : EReal) := fun g d => by
    show (acc X W g 3 d i * Ideal.logistic (acc X W g 3 d i) : EReal) = _
    rw [acc_total]
  unfold outVal final
  split_ifs
  · exact h _ _
  · exact h _ _

/-! ## The product -/

/-- One device's product at an element, as a sum. -/
theorem prod_apply (c : Dev nD) (r l : Fin 2048) :
    prod X W c (ix2 r l) = (∑ k : Fin 256, X c (ix2 r k) * W c (ix2 k l) : EReal) := by
  have hr : r.val < 2048 := r.isLt
  have e : inBlk (ix2 r l) = ix2 (⟨r.val % 256, Nat.mod_lt _ (by decide)⟩ : Fin 256) l := by
    funext a; exact match a with | ⟨0, _⟩ => rfl | ⟨1, _⟩ => rfl
  unfold prod k0_pay3 k0_pay2 k0_pay1
  dsimp only
  rw [e, shapeCast_self, shapeCast_self]
  refine (Ideal.matmul_plain_apply none _ _ _ _ _).trans ?_
  refine (congrArg₂ _ Ideal.ofBits_zero_f32 rfl).trans ((zero_add _).trans ?_)
  refine Finset.sum_congr rfl fun k _ => congrArg₂ _ ?_ rfl
  refine congrArg (X c) (funext fun a => Fin.ext ?_)
  exact match a with
    | ⟨0, _⟩ => by show 256 * (r.val / 256) + r.val % 256 = r.val; omega
    | ⟨1, _⟩ => rfl

/-- The eight products of the blocks of two whole arrays sum to the product of the arrays. -/
theorem sum_prod {x w : S2048x2048.Idx → Ideal .f32}
    (hX : ∀ c : Fin 8, X c = Layout.block (⟨2, ![2048, 256]⟩ : Shape) (⟨2, ![2048, 2048]⟩ : Shape) 1 8 c x)
    (hW : ∀ c : Fin 8, W c = Layout.block (⟨2, ![256, 2048]⟩ : Shape) (⟨2, ![2048, 2048]⟩ : Shape) 0 8 c w) (r l : Fin 2048) :
    (∑ d : Fin 8, prod X W d (ix2 r l) : EReal) = ∑ k : Fin 2048, x (ix2 r k) * w (ix2 k l) := by
  rw [← (finProdFinEquiv (m := 8) (n := 256)).sum_comp fun k => (x (ix2 r k) * w (ix2 k l) : EReal), Fintype.sum_prod_type]
  refine Finset.sum_congr rfl fun d _ => ?_
  rw [prod_apply, hX, hW]
  refine Finset.sum_congr rfl fun k _ => ?_
  have hk : (finProdFinEquiv (m := 8) (n := 256) (d, k)).val = k.val + 256 * d.val := rfl
  refine congrArg₂ _ (congrArg x (funext fun a => Fin.ext ?_)) (congrArg w (funext fun a => Fin.ext ?_))
  · exact match a with
      | ⟨0, _⟩ => rfl
      | ⟨1, _⟩ => by show d.val * 256 + k.val = (finProdFinEquiv (m := 8) (n := 256) (d, k)).val; rw [hk]; omega
  · exact match a with
      | ⟨0, _⟩ => by show d.val * 256 + k.val = (finProdFinEquiv (m := 8) (n := 256) (d, k)).val; rw [hk]; omega
      | ⟨1, _⟩ => rfl

/-! ## The gate -/

theorem exp_nonneg (y : EReal) : 0 ≤ Ideal.exp y := by
  induction y with
  | bot => exact le_rfl
  | top => exact le_top
  | coe r => exact EReal.coe_nonneg.mpr (Real.exp_pos r).le

/-- The gate is the quotient. -/
theorem mul_logistic (y : EReal) : y * Ideal.logistic y = Ideal.div y (1 + Ideal.exp (-y)) := by
  have h : (1 : EReal) + Ideal.exp (-y) ≠ 0 := fun e => by
    have h1 : (1 : EReal) ≤ 1 + Ideal.exp (-y) := le_add_of_nonneg_right (exp_nonneg _)
    rw [e] at h1; exact absurd h1 (by simp)
  exact Ideal.mul_one_div h

/-- The result of the whole arrays. -/
def silu (x w : S2048x2048.Idx → Ideal .f32) : S2048x2048.Idx → Ideal .f32 := fun i =>
  Ideal.div (∑ k : Fin 2048, x (ix2 (i 0) k) * w (ix2 k (i 1)) : EReal)
    (1 + Ideal.exp (-(∑ k : Fin 2048, x (ix2 (i 0) k) * w (ix2 k (i 1)) : EReal)))

theorem outVal_silu {x w : S2048x2048.Idx → Ideal .f32}
    (hX : ∀ c : Fin 8, X c = Layout.block (⟨2, ![2048, 256]⟩ : Shape) (⟨2, ![2048, 2048]⟩ : Shape) 1 8 c x)
    (hW : ∀ c : Fin 8, W c = Layout.block (⟨2, ![256, 2048]⟩ : Shape) (⟨2, ![2048, 2048]⟩ : Shape) 0 8 c w) (c : Dev nD) :
    outVal X W c = silu x w := by
  funext i
  rw [outVal_total, mul_logistic]
  obtain ⟨r, l, rfl⟩ : ∃ r l, i = ix2 r l := ⟨i 0, i 1, eq_ix2 i⟩
  rw [sum_prod X W hX hW]
  rfl

end Cert.KernelIdeal.Cube

end
-- ==== Proof.Ideal.Result.lean ====
/- What the run leaves in the result array, of the arguments. -/
module

public import proofs.«01_k».proof.Proof.Ideal.Launch
public import proofs.«01_k».proof.Proof.Ideal.Total

@[expose] public section

noncomputable section

namespace Cert.KernelIdeal.Cube

open Cert.KernelIdeal.Gen Cert.CubeLib
open Idealize.ShloMosaic Idealize.ShloMosaic.Pipeline Idealize.SL.Sem

variable {F : FTy → Type} [FloatOps F]
variable (m : (ℓ : Loc nD τ sig) → Buf (Elt F) ℓ) (ρ : Dev nD → PrngReg)

/-- The first window's one block is the whole array; -/
theorem xIn_eq (c : Dev nD) : xIn m c = m ((c.tc : Thread nD τ).loc main_arg0) := by
  funext j
  refine congrArg (m ((c.tc : Thread nD τ).loc main_arg0)) (?_ : (win0_0.rect (0 : Fin 1)).emb j = j)
  funext a
  exact Fin.ext (win0_0.rect_emb_val_of_index_zero (0 : Fin 1) a rfl j)
/-- so is the second's; -/
theorem wIn_eq (c : Dev nD) : wIn m c = m ((c.tc : Thread nD τ).loc main_arg1) := by
  funext j
  refine congrArg (m ((c.tc : Thread nD τ).loc main_arg1)) (?_ : (win0_1.rect (0 : Fin 1)).emb j = j)
  funext a
  exact Fin.ext (win0_1.rect_emb_val_of_index_zero (0 : Fin 1) a rfl j)

/-- and the third's. -/
theorem out_emb (j : S2048x2048.Idx) : (win0_2.rect (0 : Fin 1)).emb j = j :=
  funext fun a => Fin.ext (win0_2.rect_emb_val_of_index_zero (0 : Fin 1) a rfl j)

theorem flushed_y (c : Dev nD) (t : Fin cfg0.N) :
    (dats m ρ 0 c).flushed (2 : Fin 3) t = ((cfg0.win (2 : Fin 3)).blk t).view.read (Elt F) (yOut m c) := by
  obtain rfl := fin_N0 t
  funext j
  exact (congrArg (yOut m c) (out_emb j)).symm

theorem cover_y (i : S2048x2048.Idx) : i ∈ ((cfg0.win (2 : Fin 3)).blk t0_0).view.set := by
  show i ∈ ((View.whole main_v1).slice (win0_2.rect (0 : Fin 1))).set
  rw [View.set_slice_whole]
  exact out_emb i ▸ emb_mem (win0_2.rect (0 : Fin 1)) i

/-- The result array ends at the result. -/
theorem final_y (c : Dev nD) : finalA m ρ c (2 : Fin 3) = yOut m c :=
  (dats m ρ 0 c).arrAt_eq_of_cover (2 : Fin 3) (yOut m c) (fun t _ => flushed_y m ρ c t)
    fun i => ⟨t0_0, flush0_2 _, cover_y i⟩

/-! ## The run over the extended reals, of two whole arrays -/

section
variable (mI : (ℓ : Loc nD τ sig) → Buf (Elt Ideal) ℓ)

/-- From blocks of two whole arrays every device ends with the reference's function of them. -/
theorem yOut_silu {x w : S2048x2048.Idx → Ideal .f32}
    (hX : ∀ c : Dev nD, mI ((c.tc : Thread nD τ).loc main_arg0)
      = Layout.block (⟨2, ![2048, 256]⟩ : Shape) (⟨2, ![2048, 2048]⟩ : Shape) 1 8 c x)
    (hW : ∀ c : Dev nD, mI ((c.tc : Thread nD τ).loc main_arg1)
      = Layout.block (⟨2, ![256, 2048]⟩ : Shape) (⟨2, ![2048, 2048]⟩ : Shape) 0 8 c w) (c : Dev nD) :
    yOut mI c = silu x w :=
  outVal_silu _ _ (fun d => (xIn_eq mI d).trans (hX d)) (fun d => (wIn_eq mI d).trans (hW d)) c
end

end Cert.KernelIdeal.Cube

end
-- ==== Proof.Reference.lean ====
/- The reference's run: what its operations leave. -/
module

public import proofs.«01_k».proof.Proof.Gen.ReferenceIdeal
public import Idealize.ShloMosaic.Lib.StableHlo.RunHlo
public import Idealize.ShloMosaic.Lib.StackMember
public import Idealize.ShloMosaic.Lib.IdealHost

@[expose] public section

noncomputable section

namespace Cert.ReferenceIdeal.Plain

open Idealize.ShloMosaic Idealize.ShloMosaic.ValueIdx Idealize.SL.Sem
open Cert.ReferenceIdeal.Gen
open scoped BigOperators

variable (m : (ℓ : Loc nD τ sig) → Buf (Elt Ideal) ℓ) (ρ : Dev nD → PrngReg)

/-- The program's arguments. -/
abbrev argX : S2048x2048.Idx → Ideal .f32 := m (((0 : Dev nD).tc : Thread nD τ).loc main_arg0)
abbrev argW : S2048x2048.Idx → Ideal .f32 := m (((0 : Dev nD).tc : Thread nD τ).loc main_arg1)

/-- The product. -/
def dot (x w : S2048x2048.Idx → Ideal .f32) : FVec Ideal S2048x2048 .f32 :=
  Host.dotGeneral dot_S2048x2048_S2048x2048_S2048x2048_1_0_0_1_n_n none x w
/-- The result, in the program's own operations. -/
def res (x w : S2048x2048.Idx → Ideal .f32) : FVec Ideal S2048x2048 .f32 :=
  Host.divf (dot x w) (addf (broadcastInDim S2048x2048 ![] Facts₀.bcast_S_S2048x2048 (constant (F := Ideal) S_ .f32 0x3F800000#32))
    (Host.exp (Host.negf (dot x w))))

theorem run_all : θ_run (defs (F := Ideal)) (onTc (τ := τ) (main (F := Ideal))) ⟨m, fun _ => 0, ρ⟩ fun r =>
    r.2.mem (((0 : Dev nD).tc : Thread nD τ).loc main_v5) = res (argX m) (argW m)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (StableHlo.run_hlo defs main (by hlo_seq) (by decide) (by decide) ?_ ?_ m ρ) fun r h =>
    ⟨(h 0 main_v5).trans ?_, fun c => ⟨(h c main_arg0).trans ?_, (h c main_arg1).trans ?_⟩, sem_eq_zero_of_no_sems (by decide) r.2⟩
  · exact ⟨StableHlo.binary_bufs_sub .., StableHlo.unary_bufs_sub .., StableHlo.unary_bufs_sub .., StableHlo.nullary_bufs_sub ..,
      StableHlo.unary_bufs_sub .., StableHlo.binary_bufs_sub .., StableHlo.binary_bufs_sub ..⟩
  · exact List.forall_iff_forall_mem.mp ⟨rfl, rfl, rfl, rfl, rfl, rfl, rfl⟩
  · after_results
    rfl
  · after_results
  · after_results

/-- The result at an element. -/
theorem res_apply (x w : S2048x2048.Idx → Ideal .f32) (i : S2048x2048.Idx) :
    res x w i = Ideal.div (∑ k : Fin 2048, x (ix2 (i 0) k) * w (ix2 k (i 1)) : EReal)
      (1 + Ideal.exp (-(∑ k : Fin 2048, x (ix2 (i 0) k) * w (ix2 k (i 1)) : EReal))) := by
  have hd : dot x w i = (∑ k : Fin 2048, x (ix2 (i 0) k) * w (ix2 k (i 1)) : EReal) := by
    obtain ⟨r, l, rfl⟩ : ∃ r l, i = ix2 r l := ⟨i 0, i 1, eq_ix2 i⟩
    exact StackMember.dotGeneral_plain_apply none x w r l
  have h1 : broadcastInDim S2048x2048 ![] Facts₀.bcast_S_S2048x2048 (constant (F := Ideal) S_ .f32 0x3F800000#32) i = (1 : EReal) :=
    (broadcastInDim_scalar_apply _ _ i).trans Ideal.ofBits_one_f32
  rw [← hd]
  show Ideal.div (dot x w i) (_ + Ideal.exp (-(dot x w i))) = _
  rw [h1]

end Cert.ReferenceIdeal.Plain

end
-- ==== Proof.Clipped.lean ====
/- The clipped reference's run, and that the clip changes nothing where the mask holds. -/
module

public import proofs.«01_k».proof.Proof.Gen.ClippedIdeal
public import proofs.«01_k».proof.Proof.Gen.On_within_clip
public import Idealize.ShloMosaic.Lib.StableHlo.RunHlo
public import Idealize.ShloMosaic.Lib.StackMember
public import Idealize.ShloMosaic.Lib.IdealHost

@[expose] public section

noncomputable section

namespace Cert.ClippedIdeal.Plain

open Idealize.ShloMosaic Idealize.ShloMosaic.ValueIdx Idealize.SL.Sem
open Cert.ClippedIdeal.Gen
open scoped BigOperators

variable (m : (ℓ : Loc nD τ sig) → Buf (Elt Ideal) ℓ) (ρ : Dev nD → PrngReg)

/-- The program's arguments. -/
abbrev argX : S2048x2048.Idx → Ideal .f32 := m (((0 : Dev nD).tc : Thread nD τ).loc main_arg0)
abbrev argW : S2048x2048.Idx → Ideal .f32 := m (((0 : Dev nD).tc : Thread nD τ).loc main_arg1)

/-- The product. -/
def dot (x w : S2048x2048.Idx → Ideal .f32) : FVec Ideal S2048x2048 .f32 :=
  Host.dotGeneral dot_S2048x2048_S2048x2048_S2048x2048_1_0_0_1_n_n none x w
/-- A constant, at every element. -/
def splat (b : BitVec 32) : FVec Ideal S2048x2048 .f32 :=
  broadcastInDim S2048x2048 ![] Facts₀.bcast_S_S2048x2048 (constant (F := Ideal) S_ .f32 b)
/-- The product between -60 and 60. -/
def clip (y : FVec Ideal S2048x2048 .f32) : FVec Ideal S2048x2048 .f32 :=
  minimumf (splat 0x42700000#32) (maximumf (splat 0xC2700000#32) y)
/-- The result, in the program's own operations. -/
def res (x w : S2048x2048.Idx → Ideal .f32) : FVec Ideal S2048x2048 .f32 :=
  Host.divf (dot x w) (addf (splat 0x3F800000#32) (Host.exp (Host.negf (clip (dot x w)))))

theorem run_all : θ_run (defs (F := Ideal)) (onTc (τ := τ) (main (F := Ideal))) ⟨m, fun _ => 0, ρ⟩ fun r =>
    r.2.mem (((0 : Dev nD).tc : Thread nD τ).loc main_v6) = res (argX m) (argW m)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (StableHlo.run_hlo defs main (by hlo_seq) (by decide) (by decide) ?_ ?_ m ρ) fun r h =>
    ⟨(h 0 main_v6).trans ?_, fun c => ⟨(h c main_arg0).trans ?_, (h c main_arg1).trans ?_⟩, sem_eq_zero_of_no_sems (by decide) r.2⟩
  · exact ⟨StableHlo.binary_bufs_sub .., StableHlo.nullary_bufs_sub .., StableHlo.nullary_bufs_sub ..,
      StableHlo.unary_bufs_sub .., StableHlo.unary_bufs_sub .., StableHlo.binary_bufs_sub ..,
      StableHlo.unary_bufs_sub .., StableHlo.unary_bufs_sub .., StableHlo.binary_bufs_sub ..,
      StableHlo.unary_bufs_sub .., StableHlo.unary_bufs_sub .., StableHlo.nullary_bufs_sub ..,
      StableHlo.unary_bufs_sub .., StableHlo.binary_bufs_sub .., StableHlo.binary_bufs_sub ..⟩
  · exact List.forall_iff_forall_mem.mp ⟨rfl, rfl, rfl, rfl, rfl, rfl, rfl, rfl, rfl, rfl, rfl, rfl, rfl, rfl, rfl⟩
  · after_results
    rfl
  · after_results
  · after_results

/-- The two bounds are opposite. -/
theorem ofBits_low : Ideal.ofBits .f32 0xC2700000#32 = -Ideal.ofBits .f32 0x42700000#32 := by
  simp [Ideal.ofBits, Ideal.ieee]

/-- Where the mask holds, the product is its own clip. -/
theorem clip_of_mask (x w : S2048x2048.Idx → Ideal .f32) (i : S2048x2048.Idx)
    (h : Cert.On_within_clip.fn (F := Ideal) x w i = 1#1) : clip (dot x w) i = dot x w i := by
  have hs : ∀ b : BitVec 32, splat b i = Ideal.ofBits .f32 b := fun b => broadcastInDim_scalar_apply _ _ i
  have hm : Ideal.cmp .ole (max (dot x w i) (-(dot x w i) : EReal)) (splat 0x42700000#32 i) = 1#1 := h
  rw [hs] at hm
  have hle : max (dot x w i) (-(dot x w i) : EReal) ≤ Ideal.ofBits .f32 0x42700000#32 := by
    by_contra hn
    simp [Ideal.cmp, hn] at hm
  show min (splat 0x42700000#32 i) (max (splat 0xC2700000#32 i) (dot x w i)) = dot x w i
  rw [hs, hs, ofBits_low, max_eq_right (EReal.neg_le_of_neg_le ((le_max_right _ _).trans hle)),
    min_eq_right ((le_max_left _ _).trans hle)]

/-- The result at an element where the mask holds: the quotient without the clip. -/
theorem res_apply (x w : S2048x2048.Idx → Ideal .f32) (i : S2048x2048.Idx)
    (h : Cert.On_within_clip.fn (F := Ideal) x w i = 1#1) :
    res x w i = Ideal.div (∑ k : Fin 2048, x (ix2 (i 0) k) * w (ix2 k (i 1)) : EReal)
      (1 + Ideal.exp (-(∑ k : Fin 2048, x (ix2 (i 0) k) * w (ix2 k (i 1)) : EReal))) := by
  have hd : dot x w i = (∑ k : Fin 2048, x (ix2 (i 0) k) * w (ix2 k (i 1)) : EReal) := by
    obtain ⟨r, l, rfl⟩ : ∃ r l, i = ix2 r l := ⟨i 0, i 1, eq_ix2 i⟩
    exact StackMember.dotGeneral_plain_apply none x w r l
  have h1 : splat 0x3F800000#32 i = (1 : EReal) := (broadcastInDim_scalar_apply _ _ i).trans Ideal.ofBits_one_f32
  rw [← hd]
  show Ideal.div (dot x w i) (splat 0x3F800000#32 i + Ideal.exp (-(clip (dot x w) i))) = _
  rw [h1, clip_of_mask x w i h]

end Cert.ClippedIdeal.Plain

end
-- ==== Proof.lean ====
module

public import proofs.«01_k».proof.Defs
public import proofs.«01_k».proof.Proof.Float.Launch
public import proofs.«01_k».proof.Proof.Ideal.Result
public import proofs.«01_k».proof.Proof.Reference
public import proofs.«01_k».proof.Proof.Clipped

@[expose] public section

noncomputable section

namespace Cert.Proof

open Idealize.ShloMosaic Idealize.SL.Sem

/-- The kernel's run, with its values dropped. -/
theorem frame_kernel : Cert.quiescent_Kernel := fun m g _ =>
  θ_run_mono (Cert.Kernel.Cube.run_main (F := Bits) m g) fun _ h =>
    ⟨fun c => ⟨(h.1 c (0 : Fin 3)).trans (Cert.Kernel.Cube.final_x m g c), (h.1 c (1 : Fin 3)).trans (Cert.Kernel.Cube.final_w m g c)⟩, h.2⟩

/-- The same over the extended reals. -/
theorem frame_kernelIdeal : Cert.quiescent_KernelIdeal := fun m g _ =>
  θ_run_mono (Cert.KernelIdeal.Cube.run_main (F := Ideal) m g) fun _ h =>
    ⟨fun c => ⟨(h.1 c (0 : Fin 3)).trans (Cert.KernelIdeal.Cube.final_x m g c),
      (h.1 c (1 : Fin 3)).trans (Cert.KernelIdeal.Cube.final_w m g c)⟩, h.2⟩

/-- The reference's run, with its values dropped. -/
theorem frame_referenceIdeal : Cert.quiescent_ReferenceIdeal := fun m g _ =>
  θ_run_mono (Cert.ReferenceIdeal.Plain.run_all m g) fun _ h => h.2

/-- The kernel, of each device's blocks, and the reference, of the whole arrays, end with the same result. -/
theorem algebraic : Cert.algebraic_KernelIdeal_ReferenceIdeal := fun m g m' g' _ hag =>
  ⟨Cert.ReferenceIdeal.Plain.res (Cert.ReferenceIdeal.Plain.argX m') (Cert.ReferenceIdeal.Plain.argW m'),
    θ_run_mono (Cert.KernelIdeal.Cube.run_main (F := Ideal) m g) fun _ h c =>
      ⟨((h.1 c (2 : Fin 3)).trans (Cert.KernelIdeal.Cube.final_y m g c)).trans
          ((Cert.KernelIdeal.Cube.yOut_silu m (fun d => (hag d).1) (fun d => (hag d).2) c).trans
            (funext fun i => (Cert.ReferenceIdeal.Plain.res_apply _ _ i).symm)),
        (h.1 c (0 : Fin 3)).trans (Cert.KernelIdeal.Cube.final_x m g c),
        (h.1 c (1 : Fin 3)).trans (Cert.KernelIdeal.Cube.final_w m g c)⟩,
    θ_run_mono (Cert.ReferenceIdeal.Plain.run_all m' g') fun _ h => ⟨h.1, h.2.1 0⟩⟩

/-- The clipped reference's run, with its values dropped. -/
theorem frame_clippedIdeal : Cert.quiescent_ClippedIdeal := fun m g _ =>
  θ_run_mono (Cert.ClippedIdeal.Plain.run_all m g) fun _ h => h.2

/-- The kernel and the clipped reference end with the same result at every element whose product the clip keeps. -/
theorem algebraic_clipped : Cert.algebraic_KernelIdeal_ClippedIdeal_on_within_clip := fun m g m' g' _ hag =>
  ⟨Cert.ClippedIdeal.Plain.res (Cert.ClippedIdeal.Plain.argX m') (Cert.ClippedIdeal.Plain.argW m'),
    θ_run_mono (Cert.KernelIdeal.Cube.run_main (F := Ideal) m g) fun _ h c =>
      ⟨fun i hi => (congrFun (((h.1 c (2 : Fin 3)).trans (Cert.KernelIdeal.Cube.final_y m g c)).trans
          (Cert.KernelIdeal.Cube.yOut_silu m (fun d => (hag d).1) (fun d => (hag d).2) c)) i).trans
            (Cert.ClippedIdeal.Plain.res_apply _ _ i hi).symm,
        (h.1 c (0 : Fin 3)).trans (Cert.KernelIdeal.Cube.final_x m g c),
        (h.1 c (1 : Fin 3)).trans (Cert.KernelIdeal.Cube.final_w m g c)⟩,
    θ_run_mono (Cert.ClippedIdeal.Plain.run_all m' g') fun _ h => ⟨fun i _ => congrFun h.1 i, h.2.1 0⟩⟩

theorem claim : Cert.Claim := ⟨Cert.Kernel.Gen.facts, Cert.KernelIdeal.Gen.facts, Cert.ReferenceIdeal.Gen.facts,
  Cert.ClippedIdeal.Gen.facts, Cert.On_within_clip.Gen.facts, frame_kernel, frame_kernelIdeal, frame_referenceIdeal,
  frame_clippedIdeal, trivial, algebraic, algebraic_clipped⟩

end Cert.Proof

end
